-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_values) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8192x2048 : Shape := ⟨2, ![8192, 2048]⟩
abbrev S16x2048 : Shape := ⟨2, ![16, 2048]⟩
abbrev S16 : Shape := ⟨1, ![16]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S16x2048 : S_.BroadcastsInDim S16x2048 (![] : Fin 0 → Fin S16x2048.rank)
  reducesTo_S16x2048_S_d0_1 : S16x2048.ReducesTo [0, 1] S_
  bcast_S_S16 : S_.BroadcastsInDim S16 (![] : Fin 0 → Fin S16.rank)
  reducesTo_S16_S_d0 : S16.ReducesTo [0] S_

variable [Facts]

def fn {F : FTy → Type} [FloatOps F] (main_arg0 : FVec F S8192x2048 .f32) (main_arg1 : FVec F S16x2048 .f32) (main_arg2 : FVec F S16 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S16x2048 .f32 := Host.absf main_arg1
  let main_cst_0 : FVec F S_ .f32 := constant S_ .f32 0x7F800000#32
  let main_v5 : FVec F S16x2048 .f32 := broadcastInDim S16x2048 ![] bcast_S_S16x2048 main_cst_0
  let main_v6 : IVec S16x2048 1 := cmpf .olt main_v4 main_v5
  let main_c_1 : IVec S_ 1 := constantI S_ 1 1#1
  let main_v7 : IVec S_ 1 := (fun x v => Host.reduce IntOp.andi x v reducesTo_S16x2048_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Kernel.lean ====
abbrev S8192x2048 : Shape := ⟨2, ![8192, 2048]⟩
abbrev S16x2048 : Shape := ⟨2, ![16, 2048]⟩
abbrev S16 : Shape := ⟨1, ![16]⟩
abbrev S32x16x256 : Shape := ⟨3, ![32, 16, 256]⟩
abbrev S4x512x2048 : Shape := ⟨3, ![4, 512, 2048]⟩
abbrev S4 : Shape := ⟨1, ![4]⟩
abbrev S1 : Shape := ⟨1, ![1]⟩
abbrev S_ : Shape := ⟨0, ![]⟩
abbrev S1x512x2048 : Shape := ⟨3, ![1, 512, 2048]⟩
abbrev S512x2048 : Shape := ⟨2, ![512, 2048]⟩
abbrev S16x512 : Shape := ⟨2, ![16, 512]⟩
abbrev S16x256 : Shape := ⟨2, ![16, 256]⟩
abbrev S1x16x256 : Shape := ⟨3, ![1, 16, 256]⟩
abbrev S8192 : Shape := ⟨1, ![8192]⟩
abbrev S256 : Shape := ⟨1, ![256]⟩
abbrev S1x16 : Shape := ⟨2, ![1, 16]⟩
abbrev S8192x1 : Shape := ⟨2, ![8192, 1]⟩
abbrev S8192x2 : Shape := ⟨2, ![8192, 2]⟩

abbrev nBuf : Table → Nat
  | .hbm => 14
  | .local .tc .vmem => 3
  | .local .scVector .vmem => 6
  | _ => 0

abbrev bufTy : (tb : Table) → Fin (nBuf tb) → BufTy
  | .hbm, ⟨0, _⟩ => ⟨S8192x2048, .f32⟩
  | .hbm, ⟨1, _⟩ => ⟨S16x2048, .f32⟩
  | .hbm, ⟨2, _⟩ => ⟨S16, .f32⟩
  | .hbm, ⟨3, _⟩ => ⟨S32x16x256, .f32⟩
  | .hbm, ⟨4, _⟩ => ⟨S8192, .i32⟩
  | .hbm, ⟨5, _⟩ => ⟨S8192, .i32⟩
  | .hbm, ⟨6, _⟩ => ⟨S8192, .f32⟩
  | .hbm, ⟨7, _⟩ => ⟨S8192, .f32⟩
  | .hbm, ⟨8, _⟩ => ⟨S8192x1, .i32⟩
  | .hbm, ⟨9, _⟩ => ⟨S8192x1, .i32⟩
  | .hbm, ⟨10, _⟩ => ⟨S8192x2, .i32⟩
  | .hbm, ⟨11, _⟩ => ⟨S8192x1, .f32⟩
  | .hbm, ⟨12, _⟩ => ⟨S8192x1, .f32⟩
  | .hbm, ⟨13, _⟩ => ⟨S8192x2, .f32⟩
  | .local .tc .vmem, ⟨0, _⟩ => ⟨S16x2048, .f32⟩
  | .local .tc .vmem, ⟨1, _⟩ => ⟨S32x16x256, .f32⟩
  | .local .tc .vmem, ⟨2, _⟩ => ⟨S4x512x2048, .f32⟩
  | .local .scVector .vmem, ⟨0, _⟩ => ⟨S16x256, .f32⟩
  | .local .scVector .vmem, ⟨1, _⟩ => ⟨S16, .f32⟩
  | .local .scVector .vmem, ⟨2, _⟩ => ⟨S256, .i32⟩
  | .local .scVector .vmem, ⟨3, _⟩ => ⟨S256, .i32⟩
  | .local .scVector .vmem, ⟨4, _⟩ => ⟨S256, .f32⟩
  | .local .scVector .vmem, ⟨5, _⟩ => ⟨S256, .f32⟩
  | _, _ => ⟨S8192x2048, .f32⟩

abbrev bufScoped : (cs : CoreSpace) → Fin (nBuf (.local .tc cs)) → Bool
  | .vmem, ⟨0, _⟩ => true
  | .vmem, ⟨1, _⟩ => true
  | .vmem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v0_scv : Ref sig .scVector := ⟨.hbm, 3, rfl⟩
abbrev main_arg2_scv : Ref sig .scVector := ⟨.hbm, 2, rfl⟩
abbrev main_v1_0_scv : Ref sig .scVector := ⟨.hbm, 4, rfl⟩
abbrev main_v1_1_scv : Ref sig .scVector := ⟨.hbm, 5, rfl⟩
abbrev main_v1_2_scv : Ref sig .scVector := ⟨.hbm, 6, rfl⟩
abbrev main_v1_3_scv : Ref sig .scVector := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc0_sem0_0 : DmaSem sig := 0
abbrev cc0_sem1_0 : DmaSem sig := 1
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

@[reducible] def k0_t1_loop : Scf.Loop 32 :=
  let c0_i32_17 : BitVec 32 := 0#32
  let c4_i32 : BitVec 32 := 4#32
  let v20 : BitVec 32 := Scalar.addi c0_i32_17 c4_i32
  let c1_i32_18 : BitVec 32 := 1#32
  ⟨c0_i32_17, v20, c1_i32_18⟩
def k0_off1 (k0_t1 : Fin k0_t1_loop.trips) (c0_i32_21 : BitVec 32) : Fin 2 → Nat :=
  let c0_i32_17 : BitVec 32 := 0#32
  let c1_i32_18 : BitVec 32 := 1#32
  let arg5 : BitVec 32 := Scf.iv c0_i32_17 c1_i32_18 k0_t1
  let c4_i32_20 : BitVec 32 := 4#32
  let v21 : BitVec 32 := Scalar.muli arg5 c4_i32_20
  let v22 : BitVec 32 := Scalar.addi v21 c0_i32_21
  let c512_i32_22 : BitVec 32 := 512#32
  let v23 : BitVec 32 := Scalar.muli v22 c512_i32_22
  let c0_i32_27 : BitVec 32 := 0#32
  ![v23.toNat, 0]
def k0_off2 (k0_t1 : Fin k0_t1_loop.trips) (c0_i32_21 : BitVec 32) (c0_i32_33 : BitVec 32) : Fin 3 → Nat :=
  let c0_i32_17 : BitVec 32 := 0#32
  let c1_i32_18 : BitVec 32 := 1#32
  let arg5 : BitVec 32 := Scf.iv c0_i32_17 c1_i32_18 k0_t1
  let c4_i32_20 : BitVec 32 := 4#32
  let v21 : BitVec 32 := Scalar.muli arg5 c4_i32_20
  let v22 : BitVec 32 := Scalar.addi v21 c0_i32_21
  let c2_i32_32 : BitVec 32 := 2#32
  let v35 : BitVec 32 := Scalar.muli v22 c2_i32_32
  let v36 : BitVec 32 := Scalar.addi v35 c0_i32_33
  let v37 : Index := Scalar.indexCast v36
  let c0_34 : Index := 0#32
  let c0_35 : Index := 0#32
  ![v37.toNat, 0, 0]
def k0_cond1 (k0_t1 : Fin k0_t1_loop.trips) : BitVec 1 :=
  let c0_i32_17 : BitVec 32 := 0#32
  let c1_i32_18 : BitVec 32 := 1#32
  let arg5 : BitVec 32 := Scf.iv c0_i32_17 c1_i32_18 k0_t1
  let c4_i32_20 : BitVec 32 := 4#32
  let v21 : BitVec 32 := Scalar.muli arg5 c4_i32_20
  let c0_i32_21 : BitVec 32 := 0#32
  let v22 : BitVec 32 := Scalar.addi v21 c0_i32_21
  let c4_i32_40 : BitVec 32 := 4#32
  let v45 : BitVec 32 := Scalar.addi v22 c4_i32_40
  let c16_i32 : BitVec 32 := 16#32
  let v46 : BitVec 1 := Scalar.cmpi .slt v45 c16_i32
  let v47 : BitVec 32 := Scalar.extui v46
  let c0_i32_41 : BitVec 32 := 0#32
  let v48 : BitVec 1 := Scalar.cmpi .ne v47 c0_i32_41
  v48

def k0_off3 (k0_t1 : Fin k0_t1_loop.trips) : Fin 2 → Nat :=
  let c0_i32_17 : BitVec 32 := 0#32
  let c1_i32_18 : BitVec 32 := 1#32
  let arg5 : BitVec 32 := Scf.iv c0_i32_17 c1_i32_18 k0_t1
  let c4_i32_20 : BitVec 32 := 4#32
  let v21 : BitVec 32 := Scalar.muli arg5 c4_i32_20
  let c0_i32_21 : BitVec 32 := 0#32
  let v22 : BitVec 32 := Scalar.addi v21 c0_i32_21
  let c4_i32_114 : BitVec 32 := 4#32
  let v133 : BitVec 32 := Scalar.addi v22 c4_i32_114
  let c512_i32_115 : BitVec 32 := 512#32
  let v134 : BitVec 32 := Scalar.muli v133 c512_i32_115
  let c0_i32_120 : BitVec 32 := 0#32
  ![v134.toNat, 0]
def k0_cond2 (k0_t1 : Fin k0_t1_loop.trips) : BitVec 1 :=
  let c0_i32_17 : BitVec 32 := 0#32
  let c1_i32_18 : BitVec 32 := 1#32
  let arg5 : BitVec 32 := Scf.iv c0_i32_17 c1_i32_18 k0_t1
  let c4_i32_42 : BitVec 32 := 4#32
  let v49 : BitVec 32 := Scalar.muli arg5 c4_i32_42
  let c1_i32_43 : BitVec 32 := 1#32
  let v50 : BitVec 32 := Scalar.addi v49 c1_i32_43
  let c4_i32_63 : BitVec 32 := 4#32
  let v73 : BitVec 32 := Scalar.addi v50 c4_i32_63
  let c16_i32_64 : BitVec 32 := 16#32
  let v74 : BitVec 1 := Scalar.cmpi .slt v73 c16_i32_64
  let v75 : BitVec 32 := Scalar.extui v74
  let c0_i32_65 : BitVec 32 := 0#32
  let v76 : BitVec 1 := Scalar.cmpi .ne v75 c0_i32_65
  v76

def k0_off4 (k0_t1 : Fin k0_t1_loop.trips) : Fin 2 → Nat :=
  let c0_i32_17 : BitVec 32 := 0#32
  let c1_i32_18 : BitVec 32 := 1#32
  let arg5 : BitVec 32 := Scf.iv c0_i32_17 c1_i32_18 k0_t1
  let c4_i32_42 : BitVec 32 := 4#32
  let v49 : BitVec 32 := Scalar.muli arg5 c4_i32_42
  let c1_i32_43 : BitVec 32 := 1#32
  let v50 : BitVec 32 := Scalar.addi v49 c1_i32_43
  let c4_i32_114 : BitVec 32 := 4#32
  let v133 : BitVec 32 := Scalar.addi v50 c4_i32_114
  let c512_i32_115 : BitVec 32 := 512#32
  let v134 : BitVec 32 := Scalar.muli v133 c512_i32_115
  let c0_i32_120 : BitVec 32 := 0#32
  ![v134.toNat, 0]
def k0_cond3 (k0_t1 : Fin k0_t1_loop.trips) : BitVec 1 :=
  let c0_i32_17 : BitVec 32 := 0#32
  let c1_i32_18 : BitVec 32 := 1#32
  let arg5 : BitVec 32 := Scf.iv c0_i32_17 c1_i32_18 k0_t1
  let c4_i32_66 : BitVec 32 := 4#32
  let v77 : BitVec 32 := Scalar.muli arg5 c4_i32_66
  let c2_i32_67 : BitVec 32 := 2#32
  let v78 : BitVec 32 := Scalar.addi v77 c2_i32_67
  let c4_i32_87 : BitVec 32 := 4#32
  let v101 : BitVec 32 := Scalar.addi v78 c4_i32_87
  let c16_i32_88 : BitVec 32 := 16#32
  let v102 : BitVec 1 := Scalar.cmpi .slt v101 c16_i32_88
  let v103 : BitVec 32 := Scalar.extui v102
  let c0_i32_89 : BitVec 32 := 0#32
  let v104 : BitVec 1 := Scalar.cmpi .ne v103 c0_i32_89
  v104

def k0_off5 (k0_t1 : Fin k0_t1_loop.trips) : Fin 2 → Nat :=
  let c0_i32_17 : BitVec 32 := 0#32
  let c1_i32_18 : BitVec 32 := 1#32
  let arg5 : BitVec 32 := Scf.iv c0_i32_17 c1_i32_18 k0_t1
  let c4_i32_66 : BitVec 32 := 4#32
  let v77 : BitVec 32 := Scalar.muli arg5 c4_i32_66
  let c2_i32_67 : BitVec 32 := 2#32
  let v78 : BitVec 32 := Scalar.addi v77 c2_i32_67
  let c4_i32_114 : BitVec 32 := 4#32
  let v133 : BitVec 32 := Scalar.addi v78 c4_i32_114
  let c512_i32_115 : BitVec 32 := 512#32
  let v134 : BitVec 32 := Scalar.muli v133 c512_i32_115
  let c0_i32_120 : BitVec 32 := 0#32
  ![v134.toNat, 0]
def k0_cond4 (k0_t1 : Fin k0_t1_loop.trips) : BitVec 1 :=
  let c0_i32_17 : BitVec 32 := 0#32
  let c1_i32_18 : BitVec 32 := 1#32
  let arg5 : BitVec 32 := Scf.iv c0_i32_17 c1_i32_18 k0_t1
  let c4_i32_90 : BitVec 32 := 4#32
  let v105 : BitVec 32 := Scalar.muli arg5 c4_i32_90
  let c3_i32_91 : BitVec 32 := 3#32
  let v106 : BitVec 32 := Scalar.addi v105 c3_i32_91
  let c4_i32_111 : BitVec 32 := 4#32
  let v129 : BitVec 32 := Scalar.addi v106 c4_i32_111
  let c16_i32_112 : BitVec 32 := 16#32
  let v130 : BitVec 1 := Scalar.cmpi .slt v129 c16_i32_112
  let v131 : BitVec 32 := Scalar.extui v130
  let c0_i32_113 : BitVec 32 := 0#32
  let v132 : BitVec 1 := Scalar.cmpi .ne v131 c0_i32_113
  v132

def k0_off6 (k0_t1 : Fin k0_t1_loop.trips) : Fin 2 → Nat :=
  let c0_i32_17 : BitVec 32 := 0#32
  let c1_i32_18 : BitVec 32 := 1#32
  let arg5 : BitVec 32 := Scf.iv c0_i32_17 c1_i32_18 k0_t1
  let c4_i32_90 : BitVec 32 := 4#32
  let v105 : BitVec 32 := Scalar.muli arg5 c4_i32_90
  let c3_i32_91 : BitVec 32 := 3#32
  let v106 : BitVec 32 := Scalar.addi v105 c3_i32_91
  let c4_i32_114 : BitVec 32 := 4#32
  let v133 : BitVec 32 := Scalar.addi v106 c4_i32_114
  let c512_i32_115 : BitVec 32 := 512#32
  let v134 : BitVec 32 := Scalar.muli v133 c512_i32_115
  let c0_i32_120 : BitVec 32 := 0#32
  ![v134.toNat, 0]
abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1_r0 : BitVec 32 := 0#32
  let c0_i32_2_r0 : BitVec 32 := 0#32
  ![v1.toNat, 0, 0]
@[reducible] def k1_t1_loop : Scf.Loop 32 :=
  let c0_i32 : BitVec 32 := 0#32
  let c16_i32 : BitVec 32 := 16#32
  let v37 : BitVec 32 := Scalar.addi c0_i32 c16_i32
  let c1_i32 : BitVec 32 := 1#32
  ⟨c0_i32, v37, c1_i32⟩
def k1_off2 (k1_t1 : Fin k1_t1_loop.trips) : Fin 2 → Nat :=
  let c0_i32_4 : BitVec 32 := 0#32
  let v41 : Index := Scalar.indexCast c0_i32_4
  let c0_i32_2 : BitVec 32 := 0#32
  let c0_i32 : BitVec 32 := 0#32
  let c1_i32 : BitVec 32 := 1#32
  let arg14 : BitVec 32 := Scf.iv c0_i32 c1_i32 k1_t1
  let c1_i32_1 : BitVec 32 := 1#32
  let v38 : BitVec 32 := Scalar.muli arg14 c1_i32_1
  let v39 : BitVec 32 := Scalar.addi c0_i32_2 v38
  let c16_i32_3 : BitVec 32 := 16#32
  let v40 : BitVec 32 := Scalar.muli v39 c16_i32_3
  let v42 : Index := Scalar.indexCast v40
  ![0, v42.toNat]
def k1_off3 (k1_t1 : Fin k1_t1_loop.trips) : Fin 2 → Nat :=
  let c1_i32_5 : BitVec 32 := 1#32
  let v46 : Index := Scalar.indexCast c1_i32_5
  let c0_i32_2 : BitVec 32 := 0#32
  let c0_i32 : BitVec 32 := 0#32
  let c1_i32 : BitVec 32 := 1#32
  let arg14 : BitVec 32 := Scf.iv c0_i32 c1_i32 k1_t1
  let c1_i32_1 : BitVec 32 := 1#32
  let v38 : BitVec 32 := Scalar.muli arg14 c1_i32_1
  let v39 : BitVec 32 := Scalar.addi c0_i32_2 v38
  let c16_i32_3 : BitVec 32 := 16#32
  let v40 : BitVec 32 := Scalar.muli v39 c16_i32_3
  let v47 : Index := Scalar.indexCast v40
  ![1, v47.toNat]
def k1_off4 (k1_t1 : Fin k1_t1_loop.trips) : Fin 2 → Nat :=
  let c2_i32_6 : BitVec 32 := 2#32
  let v51 : Index := Scalar.indexCast c2_i32_6
  let c0_i32_2 : BitVec 32 := 0#32
  let c0_i32 : BitVec 32 := 0#32
  let c1_i32 : BitVec 32 := 1#32
  let arg14 : BitVec 32 := Scf.iv c0_i32 c1_i32 k1_t1
  let c1_i32_1 : BitVec 32 := 1#32
  let v38 : BitVec 32 := Scalar.muli arg14 c1_i32_1
  let v39 : BitVec 32 := Scalar.addi c0_i32_2 v38
  let c16_i32_3 : BitVec 32 := 16#32
  let v40 : BitVec 32 := Scalar.muli v39 c16_i32_3
  let v52 : Index := Scalar.indexCast v40
  ![2, v52.toNat]
def k1_off5 (k1_t1 : Fin k1_t1_loop.trips) : Fin 2 → Nat :=
  let c3_i32 : BitVec 32 := 3#32
  let v56 : Index := Scalar.indexCast c3_i32
  let c0_i32_2 : BitVec 32 := 0#32
  let c0_i32 : BitVec 32 := 0#32
  let c1_i32 : BitVec 32 := 1#32
  let arg14 : BitVec 32 := Scf.iv c0_i32 c1_i32 k1_t1
  let c1_i32_1 : BitVec 32 := 1#32
  let v38 : BitVec 32 := Scalar.muli arg14 c1_i32_1
  let v39 : BitVec 32 := Scalar.addi c0_i32_2 v38
  let c16_i32_3 : BitVec 32 := 16#32
  let v40 : BitVec 32 := Scalar.muli v39 c16_i32_3
  let v57 : Index := Scalar.indexCast v40
  ![3, v57.toNat]
def k1_off6 (k1_t1 : Fin k1_t1_loop.trips) : Fin 2 → Nat :=
  let c4_i32 : BitVec 32 := 4#32
  let v61 : Index := Scalar.indexCast c4_i32
  let c0_i32_2 : BitVec 32 := 0#32
  let c0_i32 : BitVec 32 := 0#32
  let c1_i32 : BitVec 32 := 1#32
  let arg14 : BitVec 32 := Scf.iv c0_i32 c1_i32 k1_t1
  let c1_i32_1 : BitVec 32 := 1#32
  let v38 : BitVec 32 := Scalar.muli arg14 c1_i32_1
  let v39 : BitVec 32 := Scalar.addi c0_i32_2 v38
  let c16_i32_3 : BitVec 32 := 16#32
  let v40 : BitVec 32 := Scalar.muli v39 c16_i32_3
  let v62 : Index := Scalar.indexCast v40
  ![4, v62.toNat]
def k1_off7 (k1_t1 : Fin k1_t1_loop.trips) : Fin 2 → Nat :=
  let c5_i32 : BitVec 32 := 5#32
  let v66 : Index := Scalar.indexCast c5_i32
  let c0_i32_2 : BitVec 32 := 0#32
  let c0_i32 : BitVec 32 := 0#32
  let c1_i32 : BitVec 32 := 1#32
  let arg14 : BitVec 32 := Scf.iv c0_i32 c1_i32 k1_t1
  let c1_i32_1 : BitVec 32 := 1#32
  let v38 : BitVec 32 := Scalar.muli arg14 c1_i32_1
  let v39 : BitVec 32 := Scalar.addi c0_i32_2 v38
  let c16_i32_3 : BitVec 32 := 16#32
  let v40 : BitVec 32 := Scalar.muli v39 c16_i32_3
  let v67 : Index := Scalar.indexCast v40
  ![5, v67.toNat]
def k1_off8 (k1_t1 : Fin k1_t1_loop.trips) : Fin 2 → Nat :=
  let c6_i32 : BitVec 32 := 6#32
  let v71 : Index := Scalar.indexCast c6_i32
  let c0_i32_2 : BitVec 32 := 0#32
  let c0_i32 : BitVec 32 := 0#32
  let c1_i32 : BitVec 32 := 1#32
  let arg14 : BitVec 32 := Scf.iv c0_i32 c1_i32 k1_t1
  let c1_i32_1 : BitVec 32 := 1#32
  let v38 : BitVec 32 := Scalar.muli arg14 c1_i32_1
  let v39 : BitVec 32 := Scalar.addi c0_i32_2 v38
  let c16_i32_3 : BitVec 32 := 16#32
  let v40 : BitVec 32 := Scalar.muli v39 c16_i32_3
  let v72 : Index := Scalar.indexCast v40
  ![6, v72.toNat]
def k1_off9 (k1_t1 : Fin k1_t1_loop.trips) : Fin 2 → Nat :=
  let c7_i32 : BitVec 32 := 7#32
  let v76 : Index := Scalar.indexCast c7_i32
  let c0_i32_2 : BitVec 32 := 0#32
  let c0_i32 : BitVec 32 := 0#32
  let c1_i32 : BitVec 32 := 1#32
  let arg14 : BitVec 32 := Scf.iv c0_i32 c1_i32 k1_t1
  let c1_i32_1 : BitVec 32 := 1#32
  let v38 : BitVec 32 := Scalar.muli arg14 c1_i32_1
  let v39 : BitVec 32 := Scalar.addi c0_i32_2 v38
  let c16_i32_3 : BitVec 32 := 16#32
  let v40 : BitVec 32 := Scalar.muli v39 c16_i32_3
  let v77 : Index := Scalar.indexCast v40
  ![7, v77.toNat]
def k1_off10 (k1_t1 : Fin k1_t1_loop.trips) : Fin 2 → Nat :=
  let c8_i32 : BitVec 32 := 8#32
  let v81 : Index := Scalar.indexCast c8_i32
  let c0_i32_2 : BitVec 32 := 0#32
  let c0_i32 : BitVec 32 := 0#32
  let c1_i32 : BitVec 32 := 1#32
  let arg14 : BitVec 32 := Scf.iv c0_i32 c1_i32 k1_t1
  let c1_i32_1 : BitVec 32 := 1#32
  let v38 : BitVec 32 := Scalar.muli arg14 c1_i32_1
  let v39 : BitVec 32 := Scalar.addi c0_i32_2 v38
  let c16_i32_3 : BitVec 32 := 16#32
  let v40 : BitVec 32 := Scalar.muli v39 c16_i32_3
  let v82 : Index := Scalar.indexCast v40
  ![8, v82.toNat]
def k1_off11 (k1_t1 : Fin k1_t1_loop.trips) : Fin 2 → Nat :=
  let c9_i32 : BitVec 32 := 9#32
  let v86 : Index := Scalar.indexCast c9_i32
  let c0_i32_2 : BitVec 32 := 0#32
  let c0_i32 : BitVec 32 := 0#32
  let c1_i32 : BitVec 32 := 1#32
  let arg14 : BitVec 32 := Scf.iv c0_i32 c1_i32 k1_t1
  let c1_i32_1 : BitVec 32 := 1#32
  let v38 : BitVec 32 := Scalar.muli arg14 c1_i32_1
  let v39 : BitVec 32 := Scalar.addi c0_i32_2 v38
  let c16_i32_3 : BitVec 32 := 16#32
  let v40 : BitVec 32 := Scalar.muli v39 c16_i32_3
  let v87 : Index := Scalar.indexCast v40
  ![9, v87.toNat]
def k1_off12 (k1_t1 : Fin k1_t1_loop.trips) : Fin 2 → Nat :=
  let c10_i32 : BitVec 32 := 10#32
  let v91 : Index := Scalar.indexCast c10_i32
  let c0_i32_2 : BitVec 32 := 0#32
  let c0_i32 : BitVec 32 := 0#32
  let c1_i32 : BitVec 32 := 1#32
  let arg14 : BitVec 32 := Scf.iv c0_i32 c1_i32 k1_t1
  let c1_i32_1 : BitVec 32 := 1#32
  let v38 : BitVec 32 := Scalar.muli arg14 c1_i32_1
  let v39 : BitVec 32 := Scalar.addi c0_i32_2 v38
  let c16_i32_3 : BitVec 32 := 16#32
  let v40 : BitVec 32 := Scalar.muli v39 c16_i32_3
  let v92 : Index := Scalar.indexCast v40
  ![10, v92.toNat]
def k1_off13 (k1_t1 : Fin k1_t1_loop.trips) : Fin 2 → Nat :=
  let c11_i32 : BitVec 32 := 11#32
  let v96 : Index := Scalar.indexCast c11_i32
  let c0_i32_2 : BitVec 32 := 0#32
  let c0_i32 : BitVec 32 := 0#32
  let c1_i32 : BitVec 32 := 1#32
  let arg14 : BitVec 32 := Scf.iv c0_i32 c1_i32 k1_t1
  let c1_i32_1 : BitVec 32 := 1#32
  let v38 : BitVec 32 := Scalar.muli arg14 c1_i32_1
  let v39 : BitVec 32 := Scalar.addi c0_i32_2 v38
  let c16_i32_3 : BitVec 32 := 16#32
  let v40 : BitVec 32 := Scalar.muli v39 c16_i32_3
  let v97 : Index := Scalar.indexCast v40
  ![11, v97.toNat]
def k1_off14 (k1_t1 : Fin k1_t1_loop.trips) : Fin 2 → Nat :=
  let c12_i32 : BitVec 32 := 12#32
  let v101 : Index := Scalar.indexCast c12_i32
  let c0_i32_2 : BitVec 32 := 0#32
  let c0_i32 : BitVec 32 := 0#32
  let c1_i32 : BitVec 32 := 1#32
  let arg14 : BitVec 32 := Scf.iv c0_i32 c1_i32 k1_t1
  let c1_i32_1 : BitVec 32 := 1#32
  let v38 : BitVec 32 := Scalar.muli arg14 c1_i32_1
  let v39 : BitVec 32 := Scalar.addi c0_i32_2 v38
  let c16_i32_3 : BitVec 32 := 16#32
  let v40 : BitVec 32 := Scalar.muli v39 c16_i32_3
  let v102 : Index := Scalar.indexCast v40
  ![12, v102.toNat]
def k1_off15 (k1_t1 : Fin k1_t1_loop.trips) : Fin 2 → Nat :=
  let c13_i32 : BitVec 32 := 13#32
  let v106 : Index := Scalar.indexCast c13_i32
  let c0_i32_2 : BitVec 32 := 0#32
  let c0_i32 : BitVec 32 := 0#32
  let c1_i32 : BitVec 32 := 1#32
  let arg14 : BitVec 32 := Scf.iv c0_i32 c1_i32 k1_t1
  let c1_i32_1 : BitVec 32 := 1#32
  let v38 : BitVec 32 := Scalar.muli arg14 c1_i32_1
  let v39 : BitVec 32 := Scalar.addi c0_i32_2 v38
  let c16_i32_3 : BitVec 32 := 16#32
  let v40 : BitVec 32 := Scalar.muli v39 c16_i32_3
  let v107 : Index := Scalar.indexCast v40
  ![13, v107.toNat]
def k1_off16 (k1_t1 : Fin k1_t1_loop.trips) : Fin 2 → Nat :=
  let c14_i32 : BitVec 32 := 14#32
  let v111 : Index := Scalar.indexCast c14_i32
  let c0_i32_2 : BitVec 32 := 0#32
  let c0_i32 : BitVec 32 := 0#32
  let c1_i32 : BitVec 32 := 1#32
  let arg14 : BitVec 32 := Scf.iv c0_i32 c1_i32 k1_t1
  let c1_i32_1 : BitVec 32 := 1#32
  let v38 : BitVec 32 := Scalar.muli arg14 c1_i32_1
  let v39 : BitVec 32 := Scalar.addi c0_i32_2 v38
  let c16_i32_3 : BitVec 32 := 16#32
  let v40 : BitVec 32 := Scalar.muli v39 c16_i32_3
  let v112 : Index := Scalar.indexCast v40
  ![14, v112.toNat]
def k1_off17 (k1_t1 : Fin k1_t1_loop.trips) : Fin 2 → Nat :=
  let c15_i32 : BitVec 32 := 15#32
  let v116 : Index := Scalar.indexCast c15_i32
  let c0_i32_2 : BitVec 32 := 0#32
  let c0_i32 : BitVec 32 := 0#32
  let c1_i32 : BitVec 32 := 1#32
  let arg14 : BitVec 32 := Scf.iv c0_i32 c1_i32 k1_t1
  let c1_i32_1 : BitVec 32 := 1#32
  let v38 : BitVec 32 := Scalar.muli arg14 c1_i32_1
  let v39 : BitVec 32 := Scalar.addi c0_i32_2 v38
  let c16_i32_3 : BitVec 32 := 16#32
  let v40 : BitVec 32 := Scalar.muli v39 c16_i32_3
  let v117 : Index := Scalar.indexCast v40
  ![15, v117.toNat]
def k1_off18 (k1_t1 : Fin k1_t1_loop.trips) : Fin 1 → Nat :=
  let c0_i32_2 : BitVec 32 := 0#32
  let c0_i32 : BitVec 32 := 0#32
  let c1_i32 : BitVec 32 := 1#32
  let arg14 : BitVec 32 := Scf.iv c0_i32 c1_i32 k1_t1
  let c1_i32_1 : BitVec 32 := 1#32
  let v38 : BitVec 32 := Scalar.muli arg14 c1_i32_1
  let v39 : BitVec 32 := Scalar.addi c0_i32_2 v38
  let c16_i32_3 : BitVec 32 := 16#32
  let v40 : BitVec 32 := Scalar.muli v39 c16_i32_3
  let v342 : Index := Scalar.indexCast v40
  ![v342.toNat]
def k1_off19 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8192x2048 : Shape := ⟨2, ![8192, 2048]⟩
abbrev S16x2048 : Shape := ⟨2, ![16, 2048]⟩
abbrev S16 : Shape := ⟨1, ![16]⟩
abbrev S2048x16 : Shape := ⟨2, ![2048, 16]⟩
abbrev S8192x16 : Shape := ⟨2, ![8192, 16]⟩
abbrev S1x16 : Shape := ⟨2, ![1, 16]⟩
abbrev S_ : Shape := ⟨0, ![]⟩
abbrev S8192 : Shape := ⟨1, ![8192]⟩
abbrev S8192x1 : Shape := ⟨2, ![8192, 1]⟩
abbrev S8192x2 : Shape := ⟨2, ![8192, 2]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S16x2048, .f32⟩
  | .hbm, ⟨2, _⟩ => ⟨S16, .f32⟩
  | .hbm, ⟨3, _⟩ => ⟨S2048x16, .f32⟩
  | .hbm, ⟨4, _⟩ => ⟨S8192x16, .f32⟩
  | .hbm, ⟨5, _⟩ => ⟨S1x16, .f32⟩
  | .hbm, ⟨6, _⟩ => ⟨S8192x16, .f32⟩
  | .hbm, ⟨7, _⟩ => ⟨S8192x16, .f32⟩
  | .hbm, ⟨8, _⟩ => ⟨S_, .f32⟩
  | .hbm, ⟨9, _⟩ => ⟨S8192, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S8192x1, .f32⟩
  | .hbm, ⟨14, _⟩ => ⟨S8192x16, .f32⟩
  | .hbm, ⟨15, _⟩ => ⟨S8192x16, .f32⟩
  | .hbm, ⟨16, _⟩ => ⟨S8192x16, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S8192x16, .f32⟩
  | .hbm, ⟨21, _⟩ => ⟨S8192x16, .f32⟩
  | .hbm, ⟨22, _⟩ => ⟨S8192x2, .f32⟩
  | .hbm, ⟨23, _⟩ => ⟨S8192x2, .i32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_values : Ref sig .tc := ⟨.hbm, 22, rfl⟩
abbrev main_indices : Ref sig .tc := ⟨.hbm, 23, rfl⟩

abbrev nD : Nat := 1
abbrev τ : Topo := Topo.v7x

variable {F : FTy → Type} [FloatOps F]
-- ==== Proof.Common.lean ====
/-
  What every module of this proof speaks of: the program as the launch theorem sees it, the resource algebra (the
  launch handshakes' rounds, the TensorCore pipeline's rounds, the transfers' counters), the arrays' locations, and
  the values the two kernels compute, as plain functions of the arrays they read.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.StableHlo.Run
public import Idealize.ShloMosaic.Lib.Tactic
public import Idealize.ShloMosaic.Lib.PointwiseCore

@[expose] public section

set_option maxRecDepth 16384

noncomputable section

namespace Cert.Proof.Router

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The program as the launch theorem sees it -/

/-- The labels of the program with its one pipelined region. -/
abbrev ΛP : Labels := Pipeline.Sig Λ₀ (Fin 1) fun p => (pcfgs (F := F) p).Adm
/-- The launch of the SparseCore kernel. -/
abbrev K : SparseCore.Cfg τ sig (ΛP (F := F)) 1 := sc (F := F)
/-- The kernel runs on sixteen subcores of each SparseCore. -/
theorem nSub_zero : (K (F := F)).nSub 0 = 16 := rfl
/-- The kernel runs on two SparseCores. -/
theorem nCore_zero : (K (F := F)).nCore 0 = 2 := rfl
/-- The definitions of the program with its region. -/
abbrev D : Defs nD τ sig (Elt F) (ΛP (F := F)) := Pipeline.defs pcfgs defs₀
/-- No loop variants are used by the bodies. -/
abbrev 𝒱₀ : Variants := Variants.none
/-- Those variants, lifted to the region. -/
abbrev 𝒱 : Variants := 𝒱₀.lift
/-- The variant that the tasks start from. -/
abbrev v₀ : 𝒱.V := Sum.inl none

/-- The launch's semaphores are distinct, not scoped, and no task shares a scalar subcore's buffer. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

/-- The handshakes' rounds. -/
abbrev UH : Type := URounds (GSem nD τ sig) ℕ
/-- The whole algebra: the handshakes' rounds, the pipeline's rounds and the counters. -/
abbrev UU : Type := UH × (UR sig nD τ × Counters)

/-- The handshakes' rounds library: the left factor. -/
abbrev EH : Emb UH (MT nD τ sig (HIx 1) (Elt F) ℕ UU ℕ) := embL
/-- The pipeline's rounds library: the left factor of the right factor. -/
def EP : Emb (UR sig nD τ) (MT nD τ sig (HIx 1) (Elt F) ℕ UU ℕ) :=
  (Emb.inl : Emb (UR sig nD τ) (UR sig nD τ × Counters)).trans embR
/-- What the pipeline's library owns is plain ghost state. -/
instance EP_landsIn : (EP : Emb _ (MT nD τ sig (HIx 1) (Elt F) ℕ UU ℕ)).LandsIn (upEmb : UEmb _ (MT nD τ sig (HIx 1) (Elt F) ℕ UU ℕ)) := by
  unfold EP; infer_instance

/-! ## The arrays -/

/-- The tokens `x` of device `d`. -/
abbrev xLoc (d : Dev nD) : Loc nD τ sig := (SparseCore.T d).loc main_arg0
/-- The gate's weights `W`. -/
abbrev wLoc (d : Dev nD) : Loc nD τ sig := (SparseCore.T d).loc main_arg1
/-- The gate's bias `b`. -/
abbrev bLoc (d : Dev nD) : Loc nD τ sig := (SparseCore.T d).loc main_arg2
/-- The scores that the gating kernel leaves. -/
abbrev scLoc (d : Dev nD) : Loc nD τ sig := (SparseCore.T d).loc main_v0
/-- The router's first result: the largest score's expert. -/
abbrev i1Loc (d : Dev nD) : Loc nD τ sig := (SparseCore.T d).loc main_v1_0
/-- The router's second result: the second largest score's expert. -/
abbrev i2Loc (d : Dev nD) : Loc nD τ sig := (SparseCore.T d).loc main_v1_1
/-- The router's third result: the largest probability. -/
abbrev v1Loc (d : Dev nD) : Loc nD τ sig := (SparseCore.T d).loc main_v1_2
/-- The router's fourth result: the second largest probability. -/
abbrev v2Loc (d : Dev nD) : Loc nD τ sig := (SparseCore.T d).loc main_v1_3

/-! ## What one group of sixteen tokens computes, from its sixteen score vectors (one per expert) -/

section Group

variable (s : Fin 16 → FVec F S16 .f32)

/-- The running maximum after the first twelve experts. -/
def g165 : FVec F S16 .f32 := k1_pay43 (s 0) (s 1) (s 2) (s 3) (s 4) (s 5) (s 6) (s 7) (s 8) (s 9) (s 10) (s 11)
/-- The thirteenth expert's comparison with that maximum. -/
def g166 : IVec S16 1 := k1_pay44 (s 0) (s 1) (s 2) (s 3) (s 4) (s 5) (s 6) (s 7) (s 8) (s 9) (s 10) (s 11) (s 12)
/-- The running index after thirteen experts. -/
def g168 : IVec S16 32 := k1_pay45 (s 0) (s 1) (s 2) (s 3) (s 4) (s 5) (s 6) (s 7) (s 8) (s 9) (s 10) (s 11) (s 12) 0#32
/-- The largest score's expert. -/
def gI1 : IVec S16 32 := k1_pay52 (s 12) (s 13) (s 14) (s 15) (g165 s) (g166 s) (g168 s)
/-- The largest score. -/
def gM1 : FVec F S16 .f32 := k1_pay53 (s 12) (s 13) (s 14) (s 15) (g165 s) (g166 s)
/-- The second pass's running index after four experts. -/
def g209 : IVec S16 32 := k1_pay65 k1_pay2 (s 0) (s 1) (s 2) (s 3) (s 12) (s 13) (s 14) (s 15) (g165 s) (g166 s) (g168 s)
/-- The second pass's running maximum after four experts. -/
def g210 : FVec F S16 .f32 := k1_pay66 k1_pay2 (s 0) (s 1) (s 2) (s 3) (s 12) (s 13) (s 14) (s 15) (g165 s) (g166 s) (g168 s)
/-- The fifth expert's candidate. -/
def g213 : FVec F S16 .f32 := k1_pay67 k1_pay2 (s 4) (s 12) (s 13) (s 14) (s 15) (g165 s) (g166 s) (g168 s)
/-- The fifth candidate's comparison with the running maximum. -/
def g214 : IVec S16 1 := k1_pay68 k1_pay2 (s 0) (s 1) (s 2) (s 3) (s 4) (s 12) (s 13) (s 14) (s 15) (g165 s) (g166 s) (g168 s)
/-- The second pass's running index after eleven experts. -/
def g258 : IVec S16 32 := k1_pay87 k1_pay2 (s 5) (s 6) (s 7) (s 8) (s 9) (s 10) (gI1 s) (g209 s) (g210 s) (g213 s) (g214 s) 4#32
/-- The second pass's running maximum after eleven experts. -/
def g259 : FVec F S16 .f32 := k1_pay88 k1_pay2 (s 5) (s 6) (s 7) (s 8) (s 9) (s 10) (gI1 s) (g210 s) (g213 s) (g214 s)
/-- Whether the largest score's expert is number eleven. -/
def g261 : IVec S16 1 := k1_pay89 (gI1 s)
/-- The second largest score's expert. -/
def gI2 : IVec S16 32 := k1_pay104 k1_pay2 (s 11) (s 12) (s 13) (s 14) (s 15) (gI1 s) (g258 s) (g259 s) (g261 s)
/-- The second largest score. -/
def gM2 : FVec F S16 .f32 := k1_pay105 k1_pay2 (s 11) (s 12) (s 13) (s 14) (s 15) (gI1 s) (g259 s) (g261 s)
/-- The sum of the first six exponentials. -/
def g311 : FVec F S16 .f32 := k1_pay106 (s 0) (s 1) (s 2) (s 3) (s 4) (s 5) (gM1 s)
/-- The seventh exponent. -/
def g312 : FVec F S16 .f32 := k1_pay107 (s 6) (gM1 s)
/-- The largest probability. -/
def gV1 : FVec F S16 .f32 := k1_pay4 (s 7) (s 8) (s 9) (s 10) (s 11) (s 12) (s 13) (s 14) (s 15) (gM1 s) (g311 s) (g312 s)
/-- The second largest probability. -/
def gV2 : FVec F S16 .f32 := k1_pay5 (s 7) (s 8) (s 9) (s 10) (s 11) (s 12) (s 13) (s 14) (s 15) (gM1 s) (gM2 s) (g311 s) (g312 s)

end Group

/-! ## What one task writes, from its block of scores and the bias -/

/-- Expert `e`'s biased scores of the sixteen tokens of group `t`. -/
def sVec (sv : S16x256.Idx → F .f32) (b : S16.Idx → F .f32) (t : Fin 16) (e : Fin 16) : FVec F S16 .f32 :=
  fun l => FloatOps.addf (sv (ix2 e ⟨16 * t.val + (l 0).val, by have : (l 0).val < 16 := (l 0).isLt; omega⟩)) (b (ix1 e))

/-- A function of groups read token by token: token `j` of the block is lane `j mod 16` of group `j / 16`. -/
def perTok {α : Type} (f : Fin 16 → S16.Idx → α) (j : S256.Idx) : α :=
  f ⟨(j 0).val / 16, by have : (j 0).val < 256 := (j 0).isLt; omega⟩ (ix1 ⟨(j 0).val % 16, Nat.mod_lt _ (by decide)⟩)

/-- The block's largest scores' experts, token by token. -/
def tI1 (sv : S16x256.Idx → F .f32) (b : S16.Idx → F .f32) : S256.Idx → BitVec 32 := perTok fun t => gI1 (sVec sv b t)
/-- The block's second largest scores' experts, token by token. -/
def tI2 (sv : S16x256.Idx → F .f32) (b : S16.Idx → F .f32) : S256.Idx → BitVec 32 := perTok fun t => gI2 (sVec sv b t)
/-- The block's largest probabilities, token by token. -/
def tV1 (sv : S16x256.Idx → F .f32) (b : S16.Idx → F .f32) : S256.Idx → F .f32 := perTok fun t => gV1 (sVec sv b t)
/-- The block's second largest probabilities, token by token. -/
def tV2 (sv : S16x256.Idx → F .f32) (b : S16.Idx → F .f32) : S256.Idx → F .f32 := perTok fun t => gV2 (sVec sv b t)

/-- Block `w` of the scores. -/
def blkOf (sc : S32x16x256.Idx → F .f32) (w : Fin 32) : S16x256.Idx → F .f32 := fun y => sc (ix3 w (y 0) (y 1))

/-- A function of blocks read token by token: token `j` is token `j mod 256` of block `j / 256`. -/
def perBlk {α : Type} (f : Fin 32 → S256.Idx → α) (j : S8192.Idx) : α :=
  f ⟨(j 0).val / 256, by have : (j 0).val < 8192 := (j 0).isLt; omega⟩ (ix1 ⟨(j 0).val % 256, Nat.mod_lt _ (by decide)⟩)

/-! ## The four result arrays of the SparseCore kernel, from the scores and the bias -/

/-- All tokens' largest scores' experts. -/
def oI1 (sc : S32x16x256.Idx → F .f32) (b : S16.Idx → F .f32) : S8192.Idx → BitVec 32 := perBlk fun w => tI1 (blkOf sc w) b
/-- All tokens' second largest scores' experts. -/
def oI2 (sc : S32x16x256.Idx → F .f32) (b : S16.Idx → F .f32) : S8192.Idx → BitVec 32 := perBlk fun w => tI2 (blkOf sc w) b
/-- All tokens' largest probabilities. -/
def oV1 (sc : S32x16x256.Idx → F .f32) (b : S16.Idx → F .f32) : S8192.Idx → F .f32 := perBlk fun w => tV1 (blkOf sc w) b
/-- All tokens' second largest probabilities. -/
def oV2 (sc : S32x16x256.Idx → F .f32) (b : S16.Idx → F .f32) : S8192.Idx → F .f32 := perBlk fun w => tV2 (blkOf sc w) b

end Cert.Proof.Router
-- ==== Proof.RouterVal.lean ====
/-
  The values one task of the SparseCore kernel moves: what its loads and copies read, and what its stores leave, in the
  words of `Common.lean`.
-/
module

public import proofs.«01_k».proof.Proof.Common
public import Idealize.ShloMosaic.Lib.ValueLayout
public import Idealize.ShloMosaic.Lib.Writes

@[expose] public section

set_option maxRecDepth 16384

noncomputable section

namespace Cert.Proof.Router

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

local notation "scM" => (Memref.whole Cert.KernelIdeal.main_v0_scv : Memref Cert.KernelIdeal.sig Kind.scVector Space.hbm Cert.KernelIdeal.S32x16x256 EltTy.f32)
local notation "bM" => (Memref.whole Cert.KernelIdeal.main_arg2_scv : Memref Cert.KernelIdeal.sig Kind.scVector Space.hbm Cert.KernelIdeal.S16 EltTy.f32)
local notation "o0M" => (Memref.whole Cert.KernelIdeal.main_v1_0_scv : Memref Cert.KernelIdeal.sig Kind.scVector Space.hbm Cert.KernelIdeal.S8192 EltTy.i32)
local notation "o1M" => (Memref.whole Cert.KernelIdeal.main_v1_1_scv : Memref Cert.KernelIdeal.sig Kind.scVector Space.hbm Cert.KernelIdeal.S8192 EltTy.i32)
local notation "o2M" => (Memref.whole Cert.KernelIdeal.main_v1_2_scv : Memref Cert.KernelIdeal.sig Kind.scVector Space.hbm Cert.KernelIdeal.S8192 EltTy.f32)
local notation "o3M" => (Memref.whole Cert.KernelIdeal.main_v1_3_scv : Memref Cert.KernelIdeal.sig Kind.scVector Space.hbm Cert.KernelIdeal.S8192 EltTy.f32)
local notation "s0M" => (Memref.whole Cert.KernelIdeal.cc1_scratch0 : Memref Cert.KernelIdeal.sig Kind.scVector Space.vmem Cert.KernelIdeal.S16x256 EltTy.f32)
local notation "s1M" => (Memref.whole Cert.KernelIdeal.cc1_scratch1 : Memref Cert.KernelIdeal.sig Kind.scVector Space.vmem Cert.KernelIdeal.S16 EltTy.f32)
local notation "s2M" => (Memref.whole Cert.KernelIdeal.cc1_scratch2 : Memref Cert.KernelIdeal.sig Kind.scVector Space.vmem Cert.KernelIdeal.S256 EltTy.i32)
local notation "s3M" => (Memref.whole Cert.KernelIdeal.cc1_scratch3 : Memref Cert.KernelIdeal.sig Kind.scVector Space.vmem Cert.KernelIdeal.S256 EltTy.i32)
local notation "s4M" => (Memref.whole Cert.KernelIdeal.cc1_scratch4 : Memref Cert.KernelIdeal.sig Kind.scVector Space.vmem Cert.KernelIdeal.S256 EltTy.f32)
local notation "s5M" => (Memref.whole Cert.KernelIdeal.cc1_scratch5 : Memref Cert.KernelIdeal.sig Kind.scVector Space.vmem Cert.KernelIdeal.S256 EltTy.f32)

/-! ## The scores a trip loads -/

/-- The trip's number among the sixteen groups. -/
abbrev gr (t : Fin k1_t1_loop.trips) : Fin 16 := ⟨t.val, lt_of_lt_of_le t.isLt (by decide)⟩

/-- The sixteen vectors trip `t` computes from its sixteen loads: expert `e`'s scores of the group, its bias added. -/
def loaded (sv : S16x256.Idx → F .f32) (v : Fin 15 → F .f32) (v34 : FVec F S1 .f32) (t : Fin k1_t1_loop.trips) : Fin 16 → FVec F S16 .f32
  | 0 => k1_pay6 (v 0) ((s0M).view.readAt (Elt F) (Rect.unit (s := S16x256) (k1_off2 t) S1x16.size (k1_off2_inb t)).toLoadRect sv)
  | 1 => k1_pay7 (v 1) ((s0M).view.readAt (Elt F) (Rect.unit (s := S16x256) (k1_off3 t) S1x16.size (k1_off3_inb t)).toLoadRect sv)
  | 2 => k1_pay8 (v 2) ((s0M).view.readAt (Elt F) (Rect.unit (s := S16x256) (k1_off4 t) S1x16.size (k1_off4_inb t)).toLoadRect sv)
  | 3 => k1_pay9 (v 3) ((s0M).view.readAt (Elt F) (Rect.unit (s := S16x256) (k1_off5 t) S1x16.size (k1_off5_inb t)).toLoadRect sv)
  | 4 => k1_pay10 (v 4) ((s0M).view.readAt (Elt F) (Rect.unit (s := S16x256) (k1_off6 t) S1x16.size (k1_off6_inb t)).toLoadRect sv)
  | 5 => k1_pay11 (v 5) ((s0M).view.readAt (Elt F) (Rect.unit (s := S16x256) (k1_off7 t) S1x16.size (k1_off7_inb t)).toLoadRect sv)
  | 6 => k1_pay12 (v 6) ((s0M).view.readAt (Elt F) (Rect.unit (s := S16x256) (k1_off8 t) S1x16.size (k1_off8_inb t)).toLoadRect sv)
  | 7 => k1_pay13 (v 7) ((s0M).view.readAt (Elt F) (Rect.unit (s := S16x256) (k1_off9 t) S1x16.size (k1_off9_inb t)).toLoadRect sv)
  | 8 => k1_pay14 (v 8) ((s0M).view.readAt (Elt F) (Rect.unit (s := S16x256) (k1_off10 t) S1x16.size (k1_off10_inb t)).toLoadRect sv)
  | 9 => k1_pay15 (v 9) ((s0M).view.readAt (Elt F) (Rect.unit (s := S16x256) (k1_off11 t) S1x16.size (k1_off11_inb t)).toLoadRect sv)
  | 10 => k1_pay16 (v 10) ((s0M).view.readAt (Elt F) (Rect.unit (s := S16x256) (k1_off12 t) S1x16.size (k1_off12_inb t)).toLoadRect sv)
  | 11 => k1_pay17 (v 11) ((s0M).view.readAt (Elt F) (Rect.unit (s := S16x256) (k1_off13 t) S1x16.size (k1_off13_inb t)).toLoadRect sv)
  | 12 => k1_pay18 (v 12) ((s0M).view.readAt (Elt F) (Rect.unit (s := S16x256) (k1_off14 t) S1x16.size (k1_off14_inb t)).toLoadRect sv)
  | 13 => k1_pay19 (v 13) ((s0M).view.readAt (Elt F) (Rect.unit (s := S16x256) (k1_off15 t) S1x16.size (k1_off15_inb t)).toLoadRect sv)
  | 14 => k1_pay20 (v 14) ((s0M).view.readAt (Elt F) (Rect.unit (s := S16x256) (k1_off16 t) S1x16.size (k1_off16_inb t)).toLoadRect sv)
  | 15 => k1_pay21 (k1_pay1 v34) ((s0M).view.readAt (Elt F) (Rect.unit (s := S16x256) (k1_off17 t) S1x16.size (k1_off17_inb t)).toLoadRect sv)
  | ⟨n + 16, h⟩ => absurd h (by omega)

/-- One expert's load: the group's sixteen scores of that expert, each with the expert's bias added. -/
theorem loaded_aux (sv : S16x256.Idx → F .f32) (v : F .f32) (t : Fin k1_t1_loop.trips) (e : Fin 16) (off : Fin 2 → Nat) (h : off = ![e.val, 16 * t.val])
    (inb : ∀ a, off a + S1x16.size a ≤ S16x256.size a) (hc : S1x16.ShapeCasts S16) :
    addf (shapeCast S16 ((s0M).view.readAt (Elt F) (Rect.unit (s := S16x256) off S1x16.size inb).toLoadRect sv) hc) (broadcast S16 v)
      = fun l => FloatOps.addf (sv (ix2 e ⟨16 * t.val + (l 0).val, by
          have : (l 0).val < 16 := (l 0).isLt; have := (gr t).isLt; simp [gr] at this; omega⟩)) v := by
  subst h
  funext l
  obtain ⟨i, rfl⟩ : ∃ i : Fin 16, l = ix1 i := ⟨l 0, (eq_ix1 l)⟩
  show FloatOps.addf (shapeCast S16 _ hc (ix1 i)) v = _
  congr 1
  refine (ValueIdx.shapeCast_1a_a_apply _ hc i).trans ?_
  show sv _ = sv _
  congr 1
  funext a
  apply Fin.ext
  match a with
  | 0 => show e.val + 1 * 0 = e.val; omega
  | 1 => show 16 * t.val + 1 * i.val = 16 * t.val + i.val; omega

/-- The sixteen loaded vectors are the biased scores of the group. -/
theorem loaded_eq (sv : S16x256.Idx → F .f32) (b : S16.Idx → F .f32) (v : Fin 15 → F .f32) (v34 : FVec F S1 .f32)
    (hv : ∀ e : Fin 15, v e = b (ix1 e.castSucc)) (h34 : k1_pay1 v34 = b (ix1 15)) (t : Fin k1_t1_loop.trips) (e : Fin 16) :
    loaded sv v v34 t e = sVec sv b (gr t) e :=
  match e with
  | 0 => (loaded_aux sv _ t 0 _ (k1_off2_eq t) (k1_off2_inb t) _).trans (by rw [hv 0]; rfl)
  | 1 => (loaded_aux sv _ t 1 _ (k1_off3_eq t) (k1_off3_inb t) _).trans (by rw [hv 1]; rfl)
  | 2 => (loaded_aux sv _ t 2 _ (k1_off4_eq t) (k1_off4_inb t) _).trans (by rw [hv 2]; rfl)
  | 3 => (loaded_aux sv _ t 3 _ (k1_off5_eq t) (k1_off5_inb t) _).trans (by rw [hv 3]; rfl)
  | 4 => (loaded_aux sv _ t 4 _ (k1_off6_eq t) (k1_off6_inb t) _).trans (by rw [hv 4]; rfl)
  | 5 => (loaded_aux sv _ t 5 _ (k1_off7_eq t) (k1_off7_inb t) _).trans (by rw [hv 5]; rfl)
  | 6 => (loaded_aux sv _ t 6 _ (k1_off8_eq t) (k1_off8_inb t) _).trans (by rw [hv 6]; rfl)
  | 7 => (loaded_aux sv _ t 7 _ (k1_off9_eq t) (k1_off9_inb t) _).trans (by rw [hv 7]; rfl)
  | 8 => (loaded_aux sv _ t 8 _ (k1_off10_eq t) (k1_off10_inb t) _).trans (by rw [hv 8]; rfl)
  | 9 => (loaded_aux sv _ t 9 _ (k1_off11_eq t) (k1_off11_inb t) _).trans (by rw [hv 9]; rfl)
  | 10 => (loaded_aux sv _ t 10 _ (k1_off12_eq t) (k1_off12_inb t) _).trans (by rw [hv 10]; rfl)
  | 11 => (loaded_aux sv _ t 11 _ (k1_off13_eq t) (k1_off13_inb t) _).trans (by rw [hv 11]; rfl)
  | 12 => (loaded_aux sv _ t 12 _ (k1_off14_eq t) (k1_off14_inb t) _).trans (by rw [hv 12]; rfl)
  | 13 => (loaded_aux sv _ t 13 _ (k1_off15_eq t) (k1_off15_inb t) _).trans (by rw [hv 13]; rfl)
  | 14 => (loaded_aux sv _ t 14 _ (k1_off16_eq t) (k1_off16_inb t) _).trans (by rw [hv 14]; rfl)
  | 15 => (loaded_aux sv _ t 15 _ (k1_off17_eq t) (k1_off17_inb t) _).trans (by rw [h34]; rfl)
  | ⟨n + 16, h⟩ => absurd h (by omega)

/-! ## The bias read expert by expert -/

/-- Word `e` taken out of the bias is the bias of expert `e`. -/
theorem bias_aux (b : FVec F S16 .f32) (e : Fin 16) (hs : S16.Slices ![e.val] S1) (hp : ∀ a, (![0] : Fin 1 → Nat) a < S1.size a) :
    extractAt ![0] (extractStridedSlice S1 ![e.val] b hs) hp = b (ix1 e) := by
  show b _ = b _
  congr 1
  funext a
  apply Fin.ext
  match a with
  | 0 => rfl

/-- The word read for expert 0 is its bias. -/
theorem bias_0 (b : FVec F S16 .f32) : k1_pay108 b = b (ix1 0) := bias_aux b 0 slices_S16_o0_S1 inpos_S1_p0
/-- The word read for expert 1 is its bias. -/
theorem bias_1 (b : FVec F S16 .f32) : k1_pay109 b = b (ix1 1) := bias_aux b 1 slices_S16_o1_S1 inpos_S1_p0
/-- The word read for expert 2 is its bias. -/
theorem bias_2 (b : FVec F S16 .f32) : k1_pay110 b = b (ix1 2) := bias_aux b 2 slices_S16_o2_S1 inpos_S1_p0
/-- The word read for expert 3 is its bias. -/
theorem bias_3 (b : FVec F S16 .f32) : k1_pay111 b = b (ix1 3) := bias_aux b 3 slices_S16_o3_S1 inpos_S1_p0
/-- The word read for expert 4 is its bias. -/
theorem bias_4 (b : FVec F S16 .f32) : k1_pay112 b = b (ix1 4) := bias_aux b 4 slices_S16_o4_S1 inpos_S1_p0
/-- The word read for expert 5 is its bias. -/
theorem bias_5 (b : FVec F S16 .f32) : k1_pay113 b = b (ix1 5) := bias_aux b 5 slices_S16_o5_S1 inpos_S1_p0
/-- The word read for expert 6 is its bias. -/
theorem bias_6 (b : FVec F S16 .f32) : k1_pay114 b = b (ix1 6) := bias_aux b 6 slices_S16_o6_S1 inpos_S1_p0
/-- The word read for expert 7 is its bias. -/
theorem bias_7 (b : FVec F S16 .f32) : k1_pay115 b = b (ix1 7) := bias_aux b 7 slices_S16_o7_S1 inpos_S1_p0
/-- The word read for expert 8 is its bias. -/
theorem bias_8 (b : FVec F S16 .f32) : k1_pay116 b = b (ix1 8) := bias_aux b 8 slices_S16_o8_S1 inpos_S1_p0
/-- The word read for expert 9 is its bias. -/
theorem bias_9 (b : FVec F S16 .f32) : k1_pay117 b = b (ix1 9) := bias_aux b 9 slices_S16_o9_S1 inpos_S1_p0
/-- The word read for expert 10 is its bias. -/
theorem bias_10 (b : FVec F S16 .f32) : k1_pay118 b = b (ix1 10) := bias_aux b 10 slices_S16_o10_S1 inpos_S1_p0
/-- The word read for expert 11 is its bias. -/
theorem bias_11 (b : FVec F S16 .f32) : k1_pay119 b = b (ix1 11) := bias_aux b 11 slices_S16_o11_S1 inpos_S1_p0
/-- The word read for expert 12 is its bias. -/
theorem bias_12 (b : FVec F S16 .f32) : k1_pay120 b = b (ix1 12) := bias_aux b 12 slices_S16_o12_S1 inpos_S1_p0
/-- The word read for expert 13 is its bias. -/
theorem bias_13 (b : FVec F S16 .f32) : k1_pay121 b = b (ix1 13) := bias_aux b 13 slices_S16_o13_S1 inpos_S1_p0
/-- The word read for expert 14 is its bias. -/
theorem bias_14 (b : FVec F S16 .f32) : k1_pay122 b = b (ix1 14) := bias_aux b 14 slices_S16_o14_S1 inpos_S1_p0
/-- The word read for expert 15 is its bias. -/
theorem bias_15 (b : FVec F S16 .f32) : k1_pay1 (k1_pay123 b) = b (ix1 15) := bias_aux b 15 slices_S16_o15_S1 inpos_S1_p0

/-! ## The tokens already stored -/

/-- An array of tokens with its first `16 k` replaced. -/
def fill {α : Type} (k : Nat) (g f : S256.Idx → α) : S256.Idx → α := fun j => if (j 0).val < 16 * k then g j else f j

/-- With nothing replaced the array is `f`. -/
theorem fill_zero {α : Type} (g f : S256.Idx → α) : fill 0 g f = f := by
  funext j; simp [fill]
/-- With all sixteen groups replaced the array is `g`. -/
theorem fill_sixteen {α : Type} (g f : S256.Idx → α) : fill 16 g f = g := by
  funext j; have : (j 0).val < 256 := (j 0).isLt; simp [fill]; intro h; omega

/-- Storing group `t`'s sixteen tokens adds them to those already there. -/
theorem read_writes_fill {e : EltTy} (M : Memref sig .scVector .vmem S256 e) (t : Fin k1_t1_loop.trips) (P : Fin 16 → S16.Idx → Elt F e) (f : S256.Idx → Elt F e)
    (c : M.view.ty.Contents (Elt F)) (hc : M.view.read (Elt F) c = fill t.val (perTok P) f) (inb : ∀ a, k1_off18 t a + S16.size a ≤ S256.size a)
    (w : S16.Idx → Elt F e) (hw : w = P (gr t)) :
    M.view.read (Elt F) (M.view.writes (Elt F) c [⟨Rect.unit (s := S256) (k1_off18 t) S16.size inb, w⟩]) = fill (t.val + 1) (perTok P) f := by
  funext j
  subst hw
  have hj : (j 0).val < 256 := (j 0).isLt
  by_cases h : (j 0).val < 16 * t.val ∨ 16 * t.val + 16 ≤ (j 0).val
  · rw [View.read_writes_cons_miss_of_axis M.view c _ [] j (0 : Fin 1) (16 * t.val) 16 (by show k1_off18 t 0 = _; rw [k1_off18_eq]; rfl) rfl rfl h, View.writes_nil, hc]
    simp only [fill]
    rcases h with h | h
    · rw [if_pos h, if_pos (by omega)]
    · rw [if_neg (by omega), if_neg (by omega)]
  · have hx := View.read_writes_cons_hit_of_coords M.view c (Rect.unit (s := S256) (k1_off18 t) S16.size inb) (P (gr t)) []
      (ix1 ⟨(j 0).val % 16, Nat.mod_lt _ (by decide)⟩) j (by
        intro a
        match a with
        | 0 =>
          show (j 0).val = k1_off18 t 0 + 1 * ((j 0).val % 16)
          rw [k1_off18_eq]
          show (j 0).val = 16 * t.val + 1 * ((j 0).val % 16)
          omega)
    refine hx.trans ?_
    simp only [fill]
    rw [if_pos (by omega)]
    show P (gr t) _ = P _ _
    congr 1
    apply Fin.ext
    show t.val = (j 0).val / 16
    omega

end Cert.Proof.Router
-- ==== Proof.Gate.lean ====
/-
  The TensorCore kernel: the tokens come in by chunks of 512, four of them in flight at a time, each on a slot and a
  semaphore of its own; each chunk's scores are stored as two rows of the result.
-/
module

public import proofs.«01_k».proof.Proof.RouterVal
public import Idealize.ShloMosaic.Lib.Pipeline.ValueKit
public import Idealize.ShloMosaic.Lib.Pipeline.Value
public import Idealize.ShloMosaic.Lib.Ring

@[expose] public section

set_option maxRecDepth 16384

noncomputable section

namespace Cert.Proof.Router

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

local notation "xM" => (Memref.whole Cert.KernelIdeal.main_arg0 : Memref Cert.KernelIdeal.sig Kind.tc Space.hbm Cert.KernelIdeal.S8192x2048 EltTy.f32)
local notation "wM" => (Memref.whole Cert.KernelIdeal.cc0_stg0_0 : Memref Cert.KernelIdeal.sig Kind.tc Space.vmem Cert.KernelIdeal.S16x2048 EltTy.f32)
local notation "oM" => (Memref.whole Cert.KernelIdeal.cc0_stg1_0 : Memref Cert.KernelIdeal.sig Kind.tc Space.vmem Cert.KernelIdeal.S32x16x256 EltTy.f32)
local notation "rM" => (Memref.whole Cert.KernelIdeal.cc0_scratch0 : Memref Cert.KernelIdeal.sig Kind.tc Space.vmem Cert.KernelIdeal.S4x512x2048 EltTy.f32)

/-- The TensorCore's thread on device `d`. -/
abbrev tt (d : Dev nD) : Thread nD τ := SparseCore.T d

/-! ## The slots, their semaphores and the chunks -/

/-- The ring's first slot. -/
abbrev slot0 : Memref sig .tc .vmem S512x2048 .f32 :=
  (Memref.slice rM (Rect.unit (s := S4x512x2048) ![0, 0, 0] S1x512x2048.size inb_S4x512x2048_S1x512x2048_0_0_0) (fun _ => rfl)).squeeze S512x2048 squeezes_S1x512x2048_S512x2048
/-- The ring's second slot. -/
abbrev slot1 : Memref sig .tc .vmem S512x2048 .f32 :=
  (Memref.slice rM (Rect.unit (s := S4x512x2048) ![1, 0, 0] S1x512x2048.size inb_S4x512x2048_S1x512x2048_1_0_0) (fun _ => rfl)).squeeze S512x2048 squeezes_S1x512x2048_S512x2048
/-- The ring's third slot. -/
abbrev slot2 : Memref sig .tc .vmem S512x2048 .f32 :=
  (Memref.slice rM (Rect.unit (s := S4x512x2048) ![2, 0, 0] S1x512x2048.size inb_S4x512x2048_S1x512x2048_2_0_0) (fun _ => rfl)).squeeze S512x2048 squeezes_S1x512x2048_S512x2048
/-- The ring's fourth slot. -/
abbrev slot3 : Memref sig .tc .vmem S512x2048 .f32 :=
  (Memref.slice rM (Rect.unit (s := S4x512x2048) ![3, 0, 0] S1x512x2048.size inb_S4x512x2048_S1x512x2048_3_0_0) (fun _ => rfl)).squeeze S512x2048 squeezes_S1x512x2048_S512x2048

/-- The first slot's semaphore. -/
abbrev sem0 : DmaSem sig := ((cc0_scratch1.slice (Rect.unit (s := S4) ![0] S1.size inb_S4_S1_0)).squeeze S_ squeezes_S1_S_).sem
/-- The second slot's semaphore. -/
abbrev sem1 : DmaSem sig := ((cc0_scratch1.slice (Rect.unit (s := S4) ![1] S1.size inb_S4_S1_1)).squeeze S_ squeezes_S1_S_).sem
/-- The third slot's semaphore. -/
abbrev sem2 : DmaSem sig := ((cc0_scratch1.slice (Rect.unit (s := S4) ![2] S1.size inb_S4_S1_2)).squeeze S_ squeezes_S1_S_).sem
/-- The fourth slot's semaphore. -/
abbrev sem3 : DmaSem sig := ((cc0_scratch1.slice (Rect.unit (s := S4) ![3] S1.size inb_S4_S1_3)).squeeze S_ squeezes_S1_S_).sem

/-- The elements of chunk `b` of the tokens: 512 rows. -/
def chunkSet (b : ℕ) : Finset S8192x2048.Idx := Finset.univ.filter fun y => (y 0).val / 512 = b

/-- Chunk `b` of the tokens, as contents of the whole ring buffer (the slot's number ignored). -/
def chunkBuf (x : S8192x2048.Idx → F .f32) (b : ℕ) : S4x512x2048.Idx → F .f32 :=
  fun y => x (ix2 (Fin.ofNat 8192 (512 * b + (y 1).val)) (y 2))

/-- Chunk `b` of the tokens as a slot hands it to the multiplication. -/
def chunkVec (x : S8192x2048.Idx → F .f32) (b : ℕ) : Vec F S1x512x2048 .f32 :=
  fun z => x (ix2 (Fin.ofNat 8192 (512 * b + (z 1).val)) (z 2))

/-- The scores: row `2 b + i` of the result holds experts' scores of half `i` of chunk `b`. -/
def scoresOf (w : S16x2048.Idx → F .f32) (x : S8192x2048.Idx → F .f32) : S32x16x256.Idx → F .f32 := fun y =>
  if (y 0).val % 2 = 0 then k0_pay5 w (chunkVec x ((y 0).val / 2)) (ix3 0 (y 1) (y 2))
  else k0_pay6 w (chunkVec x ((y 0).val / 2)) (ix3 0 (y 1) (y 2))

/-- The rows below `n` from `g`, the others from `f`. -/
def fillR {α : Type} (n : ℕ) (g f : S32x16x256.Idx → α) : S32x16x256.Idx → α := fun y => if (y 0).val < n then g y else f y

/-- With no rows taken from `g` the array is `f`. -/
theorem fillR_zero {α : Type} (g f : S32x16x256.Idx → α) : fillR 0 g f = f := by
  funext y; simp [fillR]
/-- With all 32 rows taken from `g` the array is `g`. -/
theorem fillR_all {α : Type} (g f : S32x16x256.Idx → α) : fillR 32 g f = g := by
  funext y; have : (y 0).val < 32 := (y 0).isLt; simp [fillR]; intro h; omega

omit [FloatOps F] in
/-- Storing rows `n` and `n + 1`, read back. -/
theorem read_store_rows (M : Memref sig .tc .vmem S32x16x256 .f32) (n : ℕ) (g f : S32x16x256.Idx → F .f32) (c : M.view.ty.Contents (Elt F))
    (hc : M.view.read (Elt F) c = fillR n g f)
    (ilo : ∀ a, (![n, 0, 0] : Fin 3 → ℕ) a + S1x16x256.size a ≤ S32x16x256.size a) (ihi : ∀ a, (![n + 1, 0, 0] : Fin 3 → ℕ) a + S1x16x256.size a ≤ S32x16x256.size a)
    (lo hi : S1x16x256.Idx → F .f32)
    (vlo : ∀ (r : Fin 32) (e : Fin 16) (l : Fin 256), r.val = n → lo (ix3 0 e l) = g (ix3 r e l))
    (vhi : ∀ (r : Fin 32) (e : Fin 16) (l : Fin 256), r.val = n + 1 → hi (ix3 0 e l) = g (ix3 r e l)) :
    M.view.read (Elt F) (M.view.writes (Elt F) c
        [⟨Rect.unit (s := S32x16x256) ![n + 1, 0, 0] S1x16x256.size ihi, hi⟩, ⟨Rect.unit (s := S32x16x256) ![n, 0, 0] S1x16x256.size ilo, lo⟩])
      = fillR (n + 2) g f := by
  funext y
  obtain ⟨r, e, l, rfl⟩ : ∃ (r : Fin 32) (e : Fin 16) (l : Fin 256), y = ix3 r e l := ⟨y 0, y 1, y 2, eq_ix3 y⟩
  by_cases h1 : r.val = n + 1
  · refine (View.read_writes_cons_hit_of_coords M.view c (Rect.unit (s := S32x16x256) ![n + 1, 0, 0] S1x16x256.size ihi) hi _ (ix3 0 e l) (ix3 r e l) ?_).trans ?_
    · intro a
      match a with
      | 0 => show r.val = n + 1 + 1 * 0; omega
      | 1 => show e.val = 0 + 1 * e.val; omega
      | 2 => show l.val = 0 + 1 * l.val; omega
    · rw [vhi r e l h1]
      simp only [fillR]
      rw [if_pos (by show r.val < n + 2; omega)]
  · rw [View.read_writes_cons_miss_of_axis M.view c _ _ (ix3 r e l) (0 : Fin 3) (n + 1) 1 rfl rfl rfl
      (by show r.val < n + 1 ∨ n + 1 + 1 ≤ r.val; omega)]
    by_cases h0 : r.val = n
    · refine (View.read_writes_cons_hit_of_coords M.view c (Rect.unit (s := S32x16x256) ![n, 0, 0] S1x16x256.size ilo) lo _ (ix3 0 e l) (ix3 r e l) ?_).trans ?_
      · intro a
        match a with
        | 0 => show r.val = n + 1 * 0; omega
        | 1 => show e.val = 0 + 1 * e.val; omega
        | 2 => show l.val = 0 + 1 * l.val; omega
      · rw [vlo r e l h0]
        simp only [fillR]
        rw [if_pos (by show r.val < n + 2; omega)]
    · rw [View.read_writes_cons_miss_of_axis M.view c _ _ (ix3 r e l) (0 : Fin 3) n 1 rfl rfl rfl
        (by show r.val < n ∨ n + 1 ≤ r.val; omega), View.writes_nil, hc]
      simp only [fillR]
      by_cases h : r.val < n
      · rw [if_pos (show ((ix3 r e l : S32x16x256.Idx) 0).val < n from h), if_pos (show ((ix3 r e l : S32x16x256.Idx) 0).val < n + 2 from Nat.lt_add_right 2 h)]
      · rw [if_neg (show ¬((ix3 r e l : S32x16x256.Idx) 0).val < n from h), if_neg (by show ¬ r.val < n + 2; omega)]

/-- What slot `s` of trip `t` stores: rows `8 t + 2 s` and `8 t + 2 s + 1` of the scores. -/
theorem read_stored (M : Memref sig .tc .vmem S32x16x256 .f32) (w : S16x2048.Idx → F .f32) (x : S8192x2048.Idx → F .f32) (f : S32x16x256.Idx → F .f32)
    (t s : ℕ) (c : M.view.ty.Contents (Elt F)) (hc : M.view.read (Elt F) c = fillR (8 * t + 2 * s) (scoresOf w x) f)
    (olo ohi : Fin 3 → ℕ) (hlo : olo = ![8 * t + 2 * s + 0, 0, 0]) (hhi : ohi = ![8 * t + 2 * s + 1, 0, 0])
    (ilo : ∀ a, olo a + S1x16x256.size a ≤ S32x16x256.size a) (ihi : ∀ a, ohi a + S1x16x256.size a ≤ S32x16x256.size a)
    (lo hi : S1x16x256.Idx → F .f32)
    (vlo : lo = k0_pay5 w (chunkVec x (4 * t + s))) (vhi : hi = k0_pay6 w (chunkVec x (4 * t + s))) :
    M.view.read (Elt F) (M.view.writes (Elt F) c
        [⟨Rect.unit (s := S32x16x256) ohi S1x16x256.size ihi, hi⟩, ⟨Rect.unit (s := S32x16x256) olo S1x16x256.size ilo, lo⟩])
      = fillR (8 * t + 2 * s + 2) (scoresOf w x) f := by
  subst hlo hhi vlo vhi
  refine read_store_rows M (8 * t + 2 * s) (scoresOf w x) f c hc ilo ihi _ _ ?_ ?_
  · intro r e l hr
    show _ = if r.val % 2 = 0 then k0_pay5 w (chunkVec x (r.val / 2)) (ix3 0 e l) else _
    rw [if_pos (by omega), show r.val / 2 = 4 * t + s by omega]
  · intro r e l hr
    show _ = if r.val % 2 = 0 then _ else k0_pay6 w (chunkVec x (r.val / 2)) (ix3 0 e l)
    rw [if_neg (by omega), show r.val / 2 = 4 * t + s by omega]

omit [FloatOps F] in
/-- The load of the whole weights reads the weights. -/
theorem readAt_w (w : S16x2048.Idx → F .f32) :
    (Memref.view wM).readAt (Elt F) (Rect.unit (s := S16x2048) ![0, 0] S16x2048.size inb_S16x2048_S16x2048_0_0).toLoadRect w = w := by
  funext y
  obtain ⟨a, b, rfl⟩ : ∃ (a : Fin 16) (b : Fin 2048), y = ix2 a b := ⟨y 0, y 1, eq_ix2 y⟩
  show w _ = w _
  congr 1
  funext i
  apply Fin.ext
  match i with
  | 0 => show 0 + 1 * a.val = a.val; omega
  | 1 => show 0 + 1 * b.val = b.val; omega

omit [FloatOps F] in
/-- A load of a slot that holds chunk `b` reads chunk `b`. -/
theorem readAt_slot (x : S8192x2048.Idx → F .f32) (b : ℕ) (o : Fin 3 → ℕ) (h1 : o 1 = 0) (h2 : o 2 = 0)
    (inb : ∀ a, o a + S1x512x2048.size a ≤ S4x512x2048.size a) :
    (Memref.view rM).readAt (Elt F) (Rect.unit (s := S4x512x2048) o S1x512x2048.size inb).toLoadRect (chunkBuf x b) = chunkVec x b := by
  funext z
  show x _ = x _
  congr 1
  have e1 : o 1 + 1 * (z 1).val = (z 1).val := by omega
  have e2 : o 2 + 1 * (z 2).val = (z 2).val := by omega
  funext i
  match i with
  | 0 => exact congrArg (fun n => Fin.ofNat 8192 (512 * b + n)) e1
  | 1 => exact Fin.ext e2

/-- A block of 512 rows of the tokens from row `512 b` on. -/
theorem set_chunk (b : ℕ) (o : Fin 2 → ℕ) (ho : o = ![512 * b, 0]) (inb : ∀ a, o a + S512x2048.size a ≤ S8192x2048.size a) :
    (Memref.slice xM (Rect.unit (s := S8192x2048) o S512x2048.size inb) (fun _ => rfl)).view.set = chunkSet b := by
  subst ho
  refine (View.set_slice_whole _ _).trans ?_
  ext y
  rw [Rect.mem_set_unit]
  simp only [chunkSet, Finset.mem_filter, Finset.mem_univ, true_and]
  have h1 : (y 1).val < 2048 := (y 1).isLt
  constructor
  · intro h
    have h0 : 512 * b ≤ (y 0).val ∧ (y 0).val < 512 * b + 512 := h 0
    omega
  · intro h a
    match a with
    | 0 => show 512 * b ≤ (y 0).val ∧ (y 0).val < 512 * b + 512; omega
    | 1 => show 0 ≤ (y 1).val ∧ (y 1).val < 0 + 2048; omega

/-- Writing a whole view with what `G` reads there leaves `G` on the view's elements. -/
theorem writes_whole_tc {sp : Space} {s : Shape} {e : EltTy} (v : View sig .tc sp s e) (g G : v.ty.Contents (Elt F)) (p : s.Idx → Elt F e)
    (h : ∀ x, v.read (Elt F) G x = p x) : ∀ i ∈ v.set, v.writes (Elt F) g [⟨Rect.whole s, p⟩] i = G i := by
  intro i hi
  obtain ⟨x, rfl⟩ := View.exists_emb_of_mem_set v hi
  have h1 : v.read (Elt F) (v.writes (Elt F) g [⟨Rect.whole s, p⟩]) x = v.read (Elt F) G x :=
    (View.read_writes_cons_hit v g (Rect.whole s) p [] x x (Rect.emb_whole_apply _ x)).trans (h x).symm
  rw [View.read_apply, View.read_apply] at h1
  exact (cast_bijective (congrArg (Elt F) v.elt_eq)).injective h1

omit [FloatOps F] in
/-- A slot's element `(a, b)` holds what the slot reads of chunk `c`. -/
theorem read_slot (x : S8192x2048.Idx → F .f32) (c : ℕ) (hc : c < 16) (o : Fin 3 → ℕ) (h1 : o 1 = 0) (h2 : o 2 = 0)
    (inb : ∀ a, o a + S1x512x2048.size a ≤ S4x512x2048.size a)
    (q : Fin 2 → ℕ) (hq : q = ![512 * c, 0]) (inq : ∀ a, q a + S512x2048.size a ≤ S8192x2048.size a) (z : S512x2048.Idx) :
    ((Memref.slice rM (Rect.unit (s := S4x512x2048) o S1x512x2048.size inb) (fun _ => rfl)).squeeze S512x2048 squeezes_S1x512x2048_S512x2048).view.read (Elt F) (chunkBuf x c) z
      = (ReadAs.same : ReadAs (Elt F) S512x2048 .f32 S512x2048 .f32).apply
          ((Memref.slice xM (Rect.unit (s := S8192x2048) q S512x2048.size inq) (fun _ => rfl)).view.read (Elt F) x) z := by
  subst hq
  obtain ⟨a, b, rfl⟩ : ∃ (a : Fin 512) (b : Fin 2048), z = ix2 a b := ⟨z 0, z 1, eq_ix2 z⟩
  have hz := ValueIdx.reshapeEquiv_ix2_1ab (a := 512) (b := 2048) squeezes_S1x512x2048_S512x2048.numel_eq a b
  refine Eq.trans (show _ = chunkBuf x c ((Memref.view rM).emb ((Rect.unit (s := S4x512x2048) o S1x512x2048.size inb).emb
    (Shape.reshapeEquiv squeezes_S1x512x2048_S512x2048.numel_eq (ix2 a b)))) from rfl) ?_
  refine (congrArg (fun y => chunkBuf x c ((Memref.view rM).emb ((Rect.unit (s := S4x512x2048) o S1x512x2048.size inb).emb y))) hz).trans ?_
  show x _ = x _
  congr 1
  have e1 : o 1 + 1 * a.val = a.val := by omega
  have e2 : o 2 + 1 * b.val = b.val := by omega
  have ha := a.isLt
  funext i
  apply Fin.ext
  match i with
  | 0 =>
    refine (congrArg (fun n => (Fin.ofNat 8192 (512 * c + n)).val) e1).trans ?_
    show (512 * c + a.val) % 8192 = 512 * c + 1 * a.val
    omega
  | 1 =>
    refine e2.trans ?_
    show b.val = 0 + 1 * b.val
    omega

section Slot

variable (d : Dev nD)

/-- A slot in flight with chunk `b`, beside the rest of the tokens at the slot's read share. -/
def flying (slot : Memref sig .tc .vmem S512x2048 .f32) (sm : DmaSem sig) (q : PosShare TreeShare)
    (x : Buf (Elt F) ((Memref.view xM).loc (tt d)))
    (g : Buf (Elt F) (slot.view.loc (tt d))) (b : ℕ) : sProp 𝕄 :=
  iprop(Transfers.Flight countersEmb (tt d) (SemLoc.dma sm) (none : HIx 1) 131072
      iprop((slot.view.loc (tt d) ↦[slot.view.set]{fullShare} g)
        ∗ (Memref.view xM).loc (tt d) ↦[chunkSet b]{q} x)
    ∗ ((Memref.view xM).loc (tt d) ↦[Finset.univ \ chunkSet b]{q} x))

/-- A slot with nothing in flight: its semaphore at zero, the slot at some contents, the tokens at its read share. -/
def resting (slot : Memref sig .tc .vmem S512x2048 .f32) (sm : DmaSem sig) (q : PosShare TreeShare)
    (x : Buf (Elt F) ((Memref.view xM).loc (tt d))) : sProp 𝕄 :=
  iprop(semVal ((tt d), SemLoc.dma sm) 0 ∗ (∃ g, slot.view.loc (tt d) ↦[slot.view.set]{fullShare} g)
    ∗ ((Memref.view xM).loc (tt d) ↦{q} x))

/-- A slot whose turn comes with chunk `b`: in flight with it, or at rest past the last chunk. -/
def slotSt (slot : Memref sig .tc .vmem S512x2048 .f32) (sm : DmaSem sig) (q : PosShare TreeShare)
    (x : Buf (Elt F) ((Memref.view xM).loc (tt d)))
    (g : Buf (Elt F) (slot.view.loc (tt d))) (b : ℕ) : sProp 𝕄 :=
  if b < 16 then flying d slot sm q x g b else resting d slot sm q x

/-- What a slot's transfer leaves and gives back, in the invariant's words. -/
theorem flight_st (o : Fin 3 → ℕ) (h1 : o 1 = 0) (h2 : o 2 = 0)
    (inb : ∀ a, o a + S1x512x2048.size a ≤ S4x512x2048.size a) (sm : DmaSem sig) (q : PosShare TreeShare)
    (x : Buf (Elt F) ((Memref.view xM).loc (tt d))) (g : S4x512x2048.Idx → F .f32) (b : ℕ) (hb : b < 16)
    (r : Fin 2 → ℕ) (hr : r = ![512 * b, 0]) (inr : ∀ a, r a + S512x2048.size a ≤ S8192x2048.size a)
    (p : S512x2048.Idx → F .f32)
    (hp : p = (ReadAs.same : ReadAs (Elt F) S512x2048 .f32 S512x2048 .f32).apply
          ((Memref.slice xM (Rect.unit (s := S8192x2048) r S512x2048.size inr) (fun _ => rfl)).view.read (Elt F) x)) :
    iprop(Transfers.Flight countersEmb (tt d) (SemLoc.dma sm) (none : HIx 1) 131072
      iprop((((Memref.slice rM (Rect.unit (s := S4x512x2048) o S1x512x2048.size inb) (fun _ => rfl)).squeeze S512x2048 squeezes_S1x512x2048_S512x2048).view.loc (tt d)
          ↦[((Memref.slice rM (Rect.unit (s := S4x512x2048) o S1x512x2048.size inb) (fun _ => rfl)).squeeze S512x2048 squeezes_S1x512x2048_S512x2048).view.set]{fullShare}
            ((Memref.slice rM (Rect.unit (s := S4x512x2048) o S1x512x2048.size inb) (fun _ => rfl)).squeeze S512x2048 squeezes_S1x512x2048_S512x2048).view.writes (Elt F) g [⟨Rect.whole S512x2048, p⟩])
        ∗ (Memref.view xM).loc (tt d) ↦[(Memref.slice xM (Rect.unit (s := S8192x2048) r S512x2048.size inr) (fun _ => rfl)).view.set]{q} x)
    ∗ ((Memref.view xM).loc (tt d) ↦[Finset.univ \ (Memref.slice xM (Rect.unit (s := S8192x2048) r S512x2048.size inr) (fun _ => rfl)).view.set]{q} x))
    ⊢ slotSt (F := F) d ((Memref.slice rM (Rect.unit (s := S4x512x2048) o S1x512x2048.size inb) (fun _ => rfl)).squeeze S512x2048 squeezes_S1x512x2048_S512x2048) sm q x
        (chunkBuf x b) b := by
  rw [set_chunk b r hr inr]
  unfold slotSt flying
  rw [if_pos hb]
  iintro ⟨HF, HX⟩
  isplitl [HF]
  · ihave HF := (Transfers.Flight_mono countersEmb (tt d) (D' := iprop(
        (((Memref.slice rM (Rect.unit (s := S4x512x2048) o S1x512x2048.size inb) (fun _ => rfl)).squeeze S512x2048 squeezes_S1x512x2048_S512x2048).view.loc (tt d)
          ↦[((Memref.slice rM (Rect.unit (s := S4x512x2048) o S1x512x2048.size inb) (fun _ => rfl)).squeeze S512x2048 squeezes_S1x512x2048_S512x2048).view.set]{fullShare} chunkBuf x b)
        ∗ (Memref.view xM).loc (tt d) ↦[chunkSet b]{q} x)) (BI.sep_mono (BI.BIBase.Entails.of_eq
          (pointsTo_congr (writes_whole_tc ((Memref.slice rM (Rect.unit (s := S4x512x2048) o S1x512x2048.size inb) (fun _ => rfl)).squeeze S512x2048 squeezes_S1x512x2048_S512x2048).view g (chunkBuf x b) p
            fun z => (read_slot x b hb o h1 h2 inb r hr inr z).trans (congrFun hp z).symm))) (BI.Entails.refl _))) $$ HF
    iexact HF
  · iexact HX

/-- The first slot is filled again in every trip but the last. -/
theorem cond1_iff : ∀ t : Fin k0_t1_loop.trips, k0_cond1 t = 1#1 ↔ t.val < 3 := by decide +kernel
/-- The second slot is filled again in every trip but the last. -/
theorem cond2_iff : ∀ t : Fin k0_t1_loop.trips, k0_cond2 t = 1#1 ↔ t.val < 3 := by decide +kernel
/-- The third slot is filled again in every trip but the last. -/
theorem cond3_iff : ∀ t : Fin k0_t1_loop.trips, k0_cond3 t = 1#1 ↔ t.val < 3 := by decide +kernel
/-- The fourth slot is filled again in every trip but the last. -/
theorem cond4_iff : ∀ t : Fin k0_t1_loop.trips, k0_cond4 t = 1#1 ↔ t.val < 3 := by decide +kernel
/-- The loop's trips are numbered below four. -/
theorem trips_lt : ∀ t : Fin k0_t1_loop.trips, t.val < 4 := by decide +kernel

/-- The staged weights, the staged result with its first `n` rows stored, and the waits recorded so far. -/
def common (w : S16x2048.Idx → F .f32) (x : S8192x2048.Idx → F .f32) (f : S32x16x256.Idx → F .f32)
    (O : CellTallies nD τ sig (HIx 1)) (W : Waits sig (HIx 1)) (n : ℕ) : sProp 𝕄 :=
  iprop(Transfers.MayWaits (tt d) (default : HIx 1) O ∗ ((Memref.view wM).loc (tt d) ↦{fullShare} w)
    ∗ (∃ c, ⌜(Memref.view oM).read (Elt F) c = fillR n (scoresOf w x) f⌝ ∗ ((Memref.view oM).loc (tt d) ↦{fullShare} c))
    ∗ ∃ W', ⌜∀ p ∈ W', p ∈ W ∨ p.2 = none⌝ ∗ owes (tt d) O W')

/-- Recording one more wait of the lowest level keeps the recorded waits among the allowed ones. -/
theorem waits_insert {W W' : Waits sig (HIx 1)} {g : SemLoc sig} (h : ∀ p ∈ W', p ∈ W ∨ p.2 = none) :
    ∀ p ∈ insert (g, (none : HIx 1)) W', p ∈ W ∨ p.2 = none := by
  intro p hp
  rcases Finset.mem_insert.1 hp with rfl | hp
  · exact Or.inr rfl
  · exact h p hp

/-- Slot 0's turn in trip `t`: its chunk awaited, its two rows stored, the chunk four further on started. -/
theorem part1 (t : Fin k0_t1_loop.trips) (q0 : PosShare TreeShare)
    (x : Buf (Elt F) ((Memref.view xM).loc (tt d))) (w : Buf (Elt F) ((Memref.view wM).loc (tt d)))
    (f : Buf (Elt F) ((Memref.view oM).loc (tt d))) (O : CellTallies nD τ sig (HIx 1)) (W : Waits sig (HIx 1)) :
    iprop(slotSt (F := F) d slot0 sem0 q0 x (chunkBuf x (4 * t.val + 0)) (4 * t.val + 0) ∗ common d w x f O W (8 * t.val + 2 * 0))
      ⊢ wp frame (wpE defs₀ 𝒱₀ (tt d) none) Set.univ
          (k0_part1 (F := F) xM (Memref.isWhole_whole _) wM (Memref.isWhole_whole _) oM (Memref.isWhole_whole _) rM (Memref.isWhole_whole _) cc0_scratch1 0#32 1#32 t)
          fun _ => iprop(slotSt (F := F) d slot0 sem0 q0 x (chunkBuf x (4 * t.val + 4 + 0)) (4 * t.val + 4 + 0) ∗ common d w x f O W (8 * t.val + 2 * 0 + 2)) := by
  have ht := trips_lt t
  rw [k0_part1_eq_skeleton]
  unfold k0_part1_skel common
  rw [show slotSt (F := F) d slot0 sem0 q0 x (chunkBuf x (4 * t.val + 0)) (4 * t.val + 0) = flying d slot0 sem0 q0 x (chunkBuf x (4 * t.val + 0)) (4 * t.val + 0) from if_pos (by omega)]
  unfold flying
  by_cases h : k0_cond1 t = 1#1
  · iintro ⟨⟨HF, HX⟩, #HM, HW, ⟨%c, %hc, HOut⟩, ⟨%W', %hW, HO⟩⟩
    sl_exec
    rw [readAt_w]
    sl_step
    isplitl [HF HX]
    · iapply (flight_st d ![0, 0, 0] rfl rfl inb_S4x512x2048_S1x512x2048_0_0_0 sem0 q0 x _ (4 * t.val + 4 + 0) (by have := (cond1_iff t).1 h; omega)
        (k0_off3 t) (by rw [k0_off3_eq]; congr 1; omega) (k0_off3_inb t h) _ rfl)
      isplitl [HF]; · iexact HF
      iexact HX
    isplitl []; · iexact HM
    isplitl [HW]; · iexact HW
    isplitl [HOut]
    · iexists _
      isplitr
      rotate_left
      · iexact HOut
      · ipureintro
        exact read_stored oM w x f t.val 0 c hc _ _ (k0_off2_eq t 0 0) (k0_off2_eq t 0 1) _ _ _ _
          (congrArg (k0_pay5 w) (readAt_slot x _ ![0, 0, 0] rfl rfl inb_S4x512x2048_S1x512x2048_0_0_0))
          (congrArg (k0_pay6 w) (readAt_slot x _ ![0, 0, 0] rfl rfl inb_S4x512x2048_S1x512x2048_0_0_0))
    iexists _
    isplitr
    rotate_left
    · iexact HO
    · ipureintro; exact waits_insert hW
  · iintro ⟨⟨HF, HX⟩, #HM, HW, ⟨%c, %hc, HOut⟩, ⟨%W', %hW, HO⟩⟩
    sl_exec
    rw [readAt_w]
    sl_step
    isplitl [HF HF_dst HX]
    · rw [show slotSt (F := F) d slot0 sem0 q0 x (chunkBuf x (4 * t.val + 4 + 0)) (4 * t.val + 4 + 0) = resting d slot0 sem0 q0 x
        from if_neg (by have hn : ¬ t.val < 3 := fun hh => h ((cond1_iff t).2 hh); omega)]
      unfold resting
      isplitl [HF]; · iexact HF
      isplitl [HF_dst]; · iexists _; iexact HF_dst
      iexact HX
    isplitl []; · iexact HM
    isplitl [HW]; · iexact HW
    isplitl [HOut]
    · iexists _
      isplitr
      rotate_left
      · iexact HOut
      · ipureintro
        exact read_stored oM w x f t.val 0 c hc _ _ (k0_off2_eq t 0 0) (k0_off2_eq t 0 1) _ _ _ _
          (congrArg (k0_pay5 w) (readAt_slot x _ ![0, 0, 0] rfl rfl inb_S4x512x2048_S1x512x2048_0_0_0))
          (congrArg (k0_pay6 w) (readAt_slot x _ ![0, 0, 0] rfl rfl inb_S4x512x2048_S1x512x2048_0_0_0))
    iexists _
    isplitr
    rotate_left
    · iexact HO
    · ipureintro; exact waits_insert hW

/-- Slot 1's turn in trip `t`: its chunk awaited, its two rows stored, the chunk four further on started. -/
theorem part2 (t : Fin k0_t1_loop.trips) (a b : BitVec 32) (q1 : PosShare TreeShare)
    (x : Buf (Elt F) ((Memref.view xM).loc (tt d))) (w : Buf (Elt F) ((Memref.view wM).loc (tt d)))
    (f : Buf (Elt F) ((Memref.view oM).loc (tt d))) (O : CellTallies nD τ sig (HIx 1)) (W : Waits sig (HIx 1)) :
    iprop(slotSt (F := F) d slot1 sem1 q1 x (chunkBuf x (4 * t.val + 1)) (4 * t.val + 1) ∗ common d w x f O W (8 * t.val + 2 * 1))
      ⊢ wp frame (wpE defs₀ 𝒱₀ (tt d) none) Set.univ
          (k0_part2 (F := F) xM (Memref.isWhole_whole _) wM (Memref.isWhole_whole _) oM (Memref.isWhole_whole _) rM (Memref.isWhole_whole _) cc0_scratch1 t a b)
          fun _ => iprop(slotSt (F := F) d slot1 sem1 q1 x (chunkBuf x (4 * t.val + 4 + 1)) (4 * t.val + 4 + 1) ∗ common d w x f O W (8 * t.val + 2 * 1 + 2)) := by
  have ht := trips_lt t
  rw [k0_part2_eq_skeleton]
  unfold k0_part2_skel common
  rw [show slotSt (F := F) d slot1 sem1 q1 x (chunkBuf x (4 * t.val + 1)) (4 * t.val + 1) = flying d slot1 sem1 q1 x (chunkBuf x (4 * t.val + 1)) (4 * t.val + 1) from if_pos (by omega)]
  unfold flying
  by_cases h : k0_cond2 t = 1#1
  · iintro ⟨⟨HF, HX⟩, #HM, HW, ⟨%c, %hc, HOut⟩, ⟨%W', %hW, HO⟩⟩
    sl_exec
    rw [readAt_w]
    sl_step
    isplitl [HF HX]
    · iapply (flight_st d ![1, 0, 0] rfl rfl inb_S4x512x2048_S1x512x2048_1_0_0 sem1 q1 x _ (4 * t.val + 4 + 1) (by have := (cond2_iff t).1 h; omega)
        (k0_off4 t) (by rw [k0_off4_eq]; congr 1; omega) (k0_off4_inb t h) _ rfl)
      isplitl [HF]; · iexact HF
      iexact HX
    isplitl []; · iexact HM
    isplitl [HW]; · iexact HW
    isplitl [HOut]
    · iexists _
      isplitr
      rotate_left
      · iexact HOut
      · ipureintro
        exact read_stored oM w x f t.val 1 c hc _ _ (k0_off2_eq t 1 0) (k0_off2_eq t 1 1) _ _ _ _
          (congrArg (k0_pay8 w) (readAt_slot x _ ![1, 0, 0] rfl rfl inb_S4x512x2048_S1x512x2048_1_0_0))
          (congrArg (k0_pay9 w) (readAt_slot x _ ![1, 0, 0] rfl rfl inb_S4x512x2048_S1x512x2048_1_0_0))
    iexists _
    isplitr
    rotate_left
    · iexact HO
    · ipureintro; exact waits_insert hW
  · iintro ⟨⟨HF, HX⟩, #HM, HW, ⟨%c, %hc, HOut⟩, ⟨%W', %hW, HO⟩⟩
    sl_exec
    rw [readAt_w]
    sl_step
    isplitl [HF HF_dst HX]
    · rw [show slotSt (F := F) d slot1 sem1 q1 x (chunkBuf x (4 * t.val + 4 + 1)) (4 * t.val + 4 + 1) = resting d slot1 sem1 q1 x
        from if_neg (by have hn : ¬ t.val < 3 := fun hh => h ((cond2_iff t).2 hh); omega)]
      unfold resting
      isplitl [HF]; · iexact HF
      isplitl [HF_dst]; · iexists _; iexact HF_dst
      iexact HX
    isplitl []; · iexact HM
    isplitl [HW]; · iexact HW
    isplitl [HOut]
    · iexists _
      isplitr
      rotate_left
      · iexact HOut
      · ipureintro
        exact read_stored oM w x f t.val 1 c hc _ _ (k0_off2_eq t 1 0) (k0_off2_eq t 1 1) _ _ _ _
          (congrArg (k0_pay8 w) (readAt_slot x _ ![1, 0, 0] rfl rfl inb_S4x512x2048_S1x512x2048_1_0_0))
          (congrArg (k0_pay9 w) (readAt_slot x _ ![1, 0, 0] rfl rfl inb_S4x512x2048_S1x512x2048_1_0_0))
    iexists _
    isplitr
    rotate_left
    · iexact HO
    · ipureintro; exact waits_insert hW

/-- Slot 2's turn in trip `t`: its chunk awaited, its two rows stored, the chunk four further on started. -/
theorem part3 (t : Fin k0_t1_loop.trips) (a b c' : BitVec 32) (q2 : PosShare TreeShare)
    (x : Buf (Elt F) ((Memref.view xM).loc (tt d))) (w : Buf (Elt F) ((Memref.view wM).loc (tt d)))
    (f : Buf (Elt F) ((Memref.view oM).loc (tt d))) (O : CellTallies nD τ sig (HIx 1)) (W : Waits sig (HIx 1)) :
    iprop(slotSt (F := F) d slot2 sem2 q2 x (chunkBuf x (4 * t.val + 2)) (4 * t.val + 2) ∗ common d w x f O W (8 * t.val + 2 * 2))
      ⊢ wp frame (wpE defs₀ 𝒱₀ (tt d) none) Set.univ
          (k0_part3 (F := F) xM (Memref.isWhole_whole _) wM (Memref.isWhole_whole _) oM (Memref.isWhole_whole _) rM (Memref.isWhole_whole _) cc0_scratch1 t a b c')
          fun _ => iprop(slotSt (F := F) d slot2 sem2 q2 x (chunkBuf x (4 * t.val + 4 + 2)) (4 * t.val + 4 + 2) ∗ common d w x f O W (8 * t.val + 2 * 2 + 2)) := by
  have ht := trips_lt t
  rw [k0_part3_eq_skeleton]
  unfold k0_part3_skel common
  rw [show slotSt (F := F) d slot2 sem2 q2 x (chunkBuf x (4 * t.val + 2)) (4 * t.val + 2) = flying d slot2 sem2 q2 x (chunkBuf x (4 * t.val + 2)) (4 * t.val + 2) from if_pos (by omega)]
  unfold flying
  by_cases h : k0_cond3 t = 1#1
  · iintro ⟨⟨HF, HX⟩, #HM, HW, ⟨%c, %hc, HOut⟩, ⟨%W', %hW, HO⟩⟩
    sl_exec
    rw [readAt_w]
    sl_step
    isplitl [HF HX]
    · iapply (flight_st d ![2, 0, 0] rfl rfl inb_S4x512x2048_S1x512x2048_2_0_0 sem2 q2 x _ (4 * t.val + 4 + 2) (by have := (cond3_iff t).1 h; omega)
        (k0_off5 t) (by rw [k0_off5_eq]; congr 1; omega) (k0_off5_inb t h) _ rfl)
      isplitl [HF]; · iexact HF
      iexact HX
    isplitl []; · iexact HM
    isplitl [HW]; · iexact HW
    isplitl [HOut]
    · iexists _
      isplitr
      rotate_left
      · iexact HOut
      · ipureintro
        exact read_stored oM w x f t.val 2 c hc _ _ (k0_off2_eq t 2 0) (k0_off2_eq t 2 1) _ _ _ _
          (congrArg (k0_pay11 w) (readAt_slot x _ ![2, 0, 0] rfl rfl inb_S4x512x2048_S1x512x2048_2_0_0))
          (congrArg (k0_pay12 w) (readAt_slot x _ ![2, 0, 0] rfl rfl inb_S4x512x2048_S1x512x2048_2_0_0))
    iexists _
    isplitr
    rotate_left
    · iexact HO
    · ipureintro; exact waits_insert hW
  · iintro ⟨⟨HF, HX⟩, #HM, HW, ⟨%c, %hc, HOut⟩, ⟨%W', %hW, HO⟩⟩
    sl_exec
    rw [readAt_w]
    sl_step
    isplitl [HF HF_dst HX]
    · rw [show slotSt (F := F) d slot2 sem2 q2 x (chunkBuf x (4 * t.val + 4 + 2)) (4 * t.val + 4 + 2) = resting d slot2 sem2 q2 x
        from if_neg (by have hn : ¬ t.val < 3 := fun hh => h ((cond3_iff t).2 hh); omega)]
      unfold resting
      isplitl [HF]; · iexact HF
      isplitl [HF_dst]; · iexists _; iexact HF_dst
      iexact HX
    isplitl []; · iexact HM
    isplitl [HW]; · iexact HW
    isplitl [HOut]
    · iexists _
      isplitr
      rotate_left
      · iexact HOut
      · ipureintro
        exact read_stored oM w x f t.val 2 c hc _ _ (k0_off2_eq t 2 0) (k0_off2_eq t 2 1) _ _ _ _
          (congrArg (k0_pay11 w) (readAt_slot x _ ![2, 0, 0] rfl rfl inb_S4x512x2048_S1x512x2048_2_0_0))
          (congrArg (k0_pay12 w) (readAt_slot x _ ![2, 0, 0] rfl rfl inb_S4x512x2048_S1x512x2048_2_0_0))
    iexists _
    isplitr
    rotate_left
    · iexact HO
    · ipureintro; exact waits_insert hW

/-- A first piece of a program run from part of what is held. -/
theorem step_bind {α β : Type} {P P' S : sProp 𝕄} {p : Prog (TpuEff nD τ sig (Elt F) Λ₀ .tc) α} {k : α → Prog (TpuEff nD τ sig (Elt F) Λ₀ .tc) β} {Q : β → sProp 𝕄}
    (h : P ⊢ wp frame (wpE defs₀ 𝒱₀ (tt d) none) Set.univ p fun _ => P')
    (hk : ∀ a, iprop(P' ∗ S) ⊢ wp frame (wpE defs₀ 𝒱₀ (tt d) none) Set.univ (k a) Q) :
    iprop(P ∗ S) ⊢ wp frame (wpE defs₀ 𝒱₀ (tt d) none) Set.univ (p >>= k) Q := by
  rw [wp_bind]
  exact (BI.sep_mono h (BI.Entails.refl _)).trans ((wp_frame_r _ _ _).trans (wp_mono _ _ _ hk))

/-- Before trip `k`: each slot at its chunk `4 k + s`, the first `8 k` rows stored. -/
def ring (q0 q1 q2 q3 : PosShare TreeShare)
    (x : Buf (Elt F) ((Memref.view xM).loc (tt d))) (w : Buf (Elt F) ((Memref.view wM).loc (tt d)))
    (f : Buf (Elt F) ((Memref.view oM).loc (tt d))) (O : CellTallies nD τ sig (HIx 1)) (W : Waits sig (HIx 1)) (k : ℕ) : sProp 𝕄 :=
  iprop(slotSt (F := F) d slot0 sem0 q0 x (chunkBuf x (4 * k + 0)) (4 * k + 0)
    ∗ slotSt (F := F) d slot1 sem1 q1 x (chunkBuf x (4 * k + 1)) (4 * k + 1)
    ∗ slotSt (F := F) d slot2 sem2 q2 x (chunkBuf x (4 * k + 2)) (4 * k + 2)
    ∗ slotSt (F := F) d slot3 sem3 q3 x (chunkBuf x (4 * k + 3)) (4 * k + 3)
    ∗ common d w x f O W (8 * k))

set_option maxHeartbeats 2000000 in
/-- One trip: the four slots' turns. -/
theorem gate_trip (q0 q1 q2 q3 : PosShare TreeShare)
    (x : Buf (Elt F) ((Memref.view xM).loc (tt d))) (w : Buf (Elt F) ((Memref.view wM).loc (tt d)))
    (f : Buf (Elt F) ((Memref.view oM).loc (tt d))) (O : CellTallies nD τ sig (HIx 1)) (W : Waits sig (HIx 1)) (t : Fin k0_t1_loop.trips) (u : Unit) :
    ring d q0 q1 q2 q3 x w f O W t.val
      ⊢ wp frame (wpE defs₀ 𝒱₀ (tt d) none) Set.univ
          (k0_t1_body (F := F) xM (Memref.isWhole_whole _) wM (Memref.isWhole_whole _) oM (Memref.isWhole_whole _) rM (Memref.isWhole_whole _) cc0_scratch1 t u)
          fun _ => ring d q0 q1 q2 q3 x w f O W (t.val + 1) := by
  have ht := trips_lt t
  unfold k0_t1_body
  have e : ∀ s, 4 * (t.val + 1) + s = 4 * t.val + 4 + s := fun s => by omega
  unfold ring
  rw [e 0, e 1, e 2, e 3, show 8 * (t.val + 1) = 8 * t.val + 2 * 3 + 2 by omega]
  have p1 := part1 d t q0 x w f O W
  refine BI.BIBase.Entails.trans (?_ : _ ⊢ iprop((slotSt (F := F) d slot0 sem0 q0 x (chunkBuf x (4 * t.val + 0)) (4 * t.val + 0) ∗ common d w x f O W (8 * t.val + 2 * 0))
    ∗ (slotSt (F := F) d slot1 sem1 q1 x (chunkBuf x (4 * t.val + 1)) (4 * t.val + 1)
    ∗ slotSt (F := F) d slot2 sem2 q2 x (chunkBuf x (4 * t.val + 2)) (4 * t.val + 2)
    ∗ slotSt (F := F) d slot3 sem3 q3 x (chunkBuf x (4 * t.val + 3)) (4 * t.val + 3)))) (step_bind d p1 fun r1 => ?_)
  · iintro ⟨H0, H1, H2, H3, HC⟩
    isplitl [H0 HC]
    · isplitl [H0]; · iexact H0
      iexact HC
    isplitl [H1]; · iexact H1
    isplitl [H2]; · iexact H2
    iexact H3
  obtain ⟨a1, b1⟩ := r1
  dsimp only
  refine BI.BIBase.Entails.trans (?_ : _ ⊢ iprop((slotSt (F := F) d slot1 sem1 q1 x (chunkBuf x (4 * t.val + 1)) (4 * t.val + 1) ∗ common d w x f O W (8 * t.val + 2 * 1))
    ∗ (slotSt (F := F) d slot0 sem0 q0 x (chunkBuf x (4 * t.val + 4 + 0)) (4 * t.val + 4 + 0)
    ∗ slotSt (F := F) d slot2 sem2 q2 x (chunkBuf x (4 * t.val + 2)) (4 * t.val + 2)
    ∗ slotSt (F := F) d slot3 sem3 q3 x (chunkBuf x (4 * t.val + 3)) (4 * t.val + 3)))) (step_bind d (part2 d t a1 b1 q1 x w f O W) fun r2 => ?_)
  · iintro ⟨⟨H0, HC⟩, H1, H2, H3⟩
    isplitl [H1 HC]
    · isplitl [H1]; · iexact H1
      iexact HC
    isplitl [H0]; · iexact H0
    isplitl [H2]; · iexact H2
    iexact H3
  obtain ⟨a2, b2⟩ := r2
  dsimp only
  refine BI.BIBase.Entails.trans (?_ : _ ⊢ iprop((slotSt (F := F) d slot2 sem2 q2 x (chunkBuf x (4 * t.val + 2)) (4 * t.val + 2) ∗ common d w x f O W (8 * t.val + 2 * 2))
    ∗ (slotSt (F := F) d slot0 sem0 q0 x (chunkBuf x (4 * t.val + 4 + 0)) (4 * t.val + 4 + 0)
    ∗ slotSt (F := F) d slot1 sem1 q1 x (chunkBuf x (4 * t.val + 4 + 1)) (4 * t.val + 4 + 1)
    ∗ slotSt (F := F) d slot3 sem3 q3 x (chunkBuf x (4 * t.val + 3)) (4 * t.val + 3)))) (step_bind d (part3 d t a1 a2 b2 q2 x w f O W) fun r3 => ?_)
  · iintro ⟨⟨H1, HC⟩, H0, H2, H3⟩
    isplitl [H2 HC]
    · isplitl [H2]; · iexact H2
      iexact HC
    isplitl [H0]; · iexact H0
    isplitl [H1]; · iexact H1
    iexact H3
  rw [show slotSt (F := F) d slot3 sem3 q3 x (chunkBuf x (4 * t.val + 3)) (4 * t.val + 3) = flying d slot3 sem3 q3 x (chunkBuf x (4 * t.val + 3)) (4 * t.val + 3) from if_pos (by omega)]
  unfold flying common
  beta_reduce
  by_cases h : k0_cond4 t = 1#1
  · iintro ⟨⟨H2, #HM, HW, ⟨%c, %hc, HOut⟩, ⟨%W', %hW, HO⟩⟩, H0, H1, ⟨HF, HX⟩⟩
    sl_exec
    rw [readAt_w]
    sl_step
    isplitl [H0]; · iexact H0
    isplitl [H1]; · iexact H1
    isplitl [H2]; · iexact H2
    isplitl [HF HX]
    · iapply (flight_st d ![3, 0, 0] rfl rfl inb_S4x512x2048_S1x512x2048_3_0_0 sem3 q3 x _ (4 * t.val + 4 + 3) (by have := (cond4_iff t).1 h; omega)
        (k0_off6 t) (by rw [k0_off6_eq]; congr 1; omega) (k0_off6_inb t h) _ rfl)
      isplitl [HF]; · iexact HF
      iexact HX
    isplitl []; · iexact HM
    isplitl [HW]; · iexact HW
    isplitl [HOut]
    · iexists _
      isplitr
      rotate_left
      · iexact HOut
      · ipureintro
        exact read_stored oM w x f t.val 3 c hc _ _ (k0_off2_eq t 3 0) (k0_off2_eq t 3 1) _ _ _ _
          (congrArg (k0_pay2 w) (readAt_slot x _ ![3, 0, 0] rfl rfl inb_S4x512x2048_S1x512x2048_3_0_0))
          (congrArg (k0_pay3 w) (readAt_slot x _ ![3, 0, 0] rfl rfl inb_S4x512x2048_S1x512x2048_3_0_0))
    iexists _
    isplitr
    rotate_left
    · iexact HO
    · ipureintro; exact waits_insert hW
  · iintro ⟨⟨H2, #HM, HW, ⟨%c, %hc, HOut⟩, ⟨%W', %hW, HO⟩⟩, H0, H1, ⟨HF, HX⟩⟩
    sl_exec
    rw [readAt_w]
    sl_step
    isplitl [H0]; · iexact H0
    isplitl [H1]; · iexact H1
    isplitl [H2]; · iexact H2
    isplitl [HF HF_dst HX]
    · rw [show slotSt (F := F) d slot3 sem3 q3 x (chunkBuf x (4 * t.val + 4 + 3)) (4 * t.val + 4 + 3) = resting d slot3 sem3 q3 x
        from if_neg (by have hn : ¬ t.val < 3 := fun hh => h ((cond4_iff t).2 hh); omega)]
      unfold resting
      isplitl [HF]; · iexact HF
      isplitl [HF_dst]; · iexists _; iexact HF_dst
      iexact HX
    isplitl []; · iexact HM
    isplitl [HW]; · iexact HW
    isplitl [HOut]
    · iexists _
      isplitr
      rotate_left
      · iexact HOut
      · ipureintro
        exact read_stored oM w x f t.val 3 c hc _ _ (k0_off2_eq t 3 0) (k0_off2_eq t 3 1) _ _ _ _
          (congrArg (k0_pay2 w) (readAt_slot x _ ![3, 0, 0] rfl rfl inb_S4x512x2048_S1x512x2048_3_0_0))
          (congrArg (k0_pay3 w) (readAt_slot x _ ![3, 0, 0] rfl rfl inb_S4x512x2048_S1x512x2048_3_0_0))
    iexists _
    isplitr
    rotate_left
    · iexact HO
    · ipureintro; exact waits_insert hW

end Slot

end Cert.Proof.Router
-- ==== Proof.GateBody.lean ====
/-
  The TensorCore kernel's whole body: the first four chunks started, the four trips, and the slots and the tokens
  joined back together.
-/
module

public import proofs.«01_k».proof.Proof.Gate
public import Idealize.ShloMosaic.Lib.Pipeline.ValueKit
public import Idealize.ShloMosaic.Lib.Pipeline.Value
public import Idealize.ShloMosaic.Lib.Ring

@[expose] public section

set_option maxRecDepth 16384

noncomputable section

namespace Cert.Proof.Router

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

local notation "xM" => (Memref.whole Cert.KernelIdeal.main_arg0 : Memref Cert.KernelIdeal.sig Kind.tc Space.hbm Cert.KernelIdeal.S8192x2048 EltTy.f32)
local notation "wM" => (Memref.whole Cert.KernelIdeal.cc0_stg0_0 : Memref Cert.KernelIdeal.sig Kind.tc Space.vmem Cert.KernelIdeal.S16x2048 EltTy.f32)
local notation "oM" => (Memref.whole Cert.KernelIdeal.cc0_stg1_0 : Memref Cert.KernelIdeal.sig Kind.tc Space.vmem Cert.KernelIdeal.S32x16x256 EltTy.f32)
local notation "rM" => (Memref.whole Cert.KernelIdeal.cc0_scratch0 : Memref Cert.KernelIdeal.sig Kind.tc Space.vmem Cert.KernelIdeal.S4x512x2048 EltTy.f32)

/-! ## A buffer in disjoint parts -/

section Parts

variable {ℓ : Loc nD τ sig} {B : Type} [Fintype B] (I : B → Finset (Idx ℓ)) (hd : ∀ b b', b ≠ b' → ∀ i, i ∈ I b → i ∉ I b')
  (hc : ∀ i, ∃ b, i ∈ I b)

include hd hc in
/-- A whole buffer is its parts. -/
theorem split_parts (f : Buf (Elt F) ℓ) :
    (ℓ ↦{fullShare} f : sProp 𝕄) ⊢ bigSep Finset.univ fun b => ℓ ↦[I b]{fullShare} f :=
  BI.BIBase.Entails.of_eq (Ring.pointsTo_blocks I (fun b b' h => Finset.disjoint_left.2 fun i hi => hd b b' h i hi)
    (Finset.ext fun i => ⟨fun _ => Finset.mem_univ i, fun _ => Finset.mem_biUnion.2 ((hc i).imp fun b hb => ⟨Finset.mem_univ b, hb⟩)⟩) f)

include hd hc in
/-- The parts at one contents are the whole buffer at it. -/
theorem join_same (f : Buf (Elt F) ℓ) :
    (bigSep Finset.univ fun b => ℓ ↦[I b]{fullShare} f) ⊢ (ℓ ↦{fullShare} f : sProp 𝕄) :=
  BI.BIBase.Entails.of_eq (Ring.pointsTo_blocks I (fun b b' h => Finset.disjoint_left.2 fun i hi => hd b b' h i hi)
    (Finset.ext fun i => ⟨fun _ => Finset.mem_univ i, fun _ => Finset.mem_biUnion.2 ((hc i).imp fun b hb => ⟨Finset.mem_univ b, hb⟩)⟩) f).symm

include hd hc in
/-- The parts, each at some contents, are the whole buffer at some contents. -/
theorem join_parts [DecidableEq B] (f₀ : Buf (Elt F) ℓ) :
    bigSep Finset.univ (fun b => iprop(∃ r, ℓ ↦[I b]{fullShare} r)) ⊢ (iprop(∃ r, ℓ ↦{fullShare} r) : sProp 𝕄) :=
  Ring.pointsTo_blocks_join_exists I (fun b b' h => Finset.disjoint_left.2 fun i hi => hd b b' h i hi)
    (Finset.ext fun i => ⟨fun _ => Finset.mem_univ i, fun _ => Finset.mem_biUnion.2 ((hc i).imp fun b hb => ⟨Finset.mem_univ b, hb⟩)⟩) f₀

end Parts

section Body

variable (d : Dev nD)

/-- Starting chunk `b`'s transfer into a slot at rest. -/
theorem start (o : Fin 3 → ℕ) (h1 : o 1 = 0) (h2 : o 2 = 0)
    (inb : ∀ a, o a + S1x512x2048.size a ≤ S4x512x2048.size a) (sm : DmaSem sig) (q : PosShare TreeShare)
    (x : Buf (Elt F) ((Memref.view xM).loc (tt d))) (b : ℕ) (hb : b < 16)
    (r : Fin 2 → ℕ) (hr : r = ![512 * b, 0]) (inr : ∀ a, r a + S512x2048.size a ≤ S8192x2048.size a)
    (e1 : (Memref.slice xM (Rect.unit (s := S8192x2048) r S512x2048.size inr) (fun _ => rfl)).view.WordExact)
    (e2 : ((Memref.slice rM (Rect.unit (s := S4x512x2048) o S1x512x2048.size inb) (fun _ => rfl)).squeeze S512x2048 squeezes_S1x512x2048_S512x2048).view.WordExact)
    (e3 : DmaTarget.Typed (nD := nD) (τ := τ) (p := .tc) Space.hbm (SemLoc.dma sm)
      (.here ((Memref.slice rM (Rect.unit (s := S4x512x2048) o S1x512x2048.size inb) (fun _ => rfl)).squeeze S512x2048 squeezes_S1x512x2048_S512x2048))) :
    resting (F := F) d ((Memref.slice rM (Rect.unit (s := S4x512x2048) o S1x512x2048.size inb) (fun _ => rfl)).squeeze S512x2048 squeezes_S1x512x2048_S512x2048) sm q x
      ⊢ wp frame (wpE defs₀ 𝒱₀ (tt d) none) Set.univ
          (Prog.lift (.enqueueDma (Memref.slice xM (Rect.unit (s := S8192x2048) r S512x2048.size inr) (fun _ => rfl))
            (.here ((Memref.slice rM (Rect.unit (s := S4x512x2048) o S1x512x2048.size inb) (fun _ => rfl)).squeeze S512x2048 squeezes_S1x512x2048_S512x2048))
            (.dma sm) e1 e2 e3) : Prog (TpuEff nD τ sig (Elt F) Λ₀ .tc) PUnit)
          fun _ => slotSt (F := F) d ((Memref.slice rM (Rect.unit (s := S4x512x2048) o S1x512x2048.size inb) (fun _ => rfl)).squeeze S512x2048 squeezes_S1x512x2048_S512x2048) sm q x (chunkBuf x b) b := by
  unfold resting
  iintro ⟨Hm, ⟨%g, Hg⟩, HX⟩
  sl_exec
  sl_step
  iapply (flight_st d o h1 h2 inb sm q x g b hb r hr inr _ rfl)
  isplitl [Hm]; · iexact Hm
  iexact HX

/-- The loop makes four trips. -/
theorem trips_four : Scf.trips k0_t1_loop.lb k0_t1_loop.ub k0_t1_loop.st = 4 := by decide +kernel

/-- After the last trip every slot is at rest. -/
theorem ring_last (q0 q1 q2 q3 : PosShare TreeShare)
    (x : Buf (Elt F) ((Memref.view xM).loc (tt d))) (w : Buf (Elt F) ((Memref.view wM).loc (tt d)))
    (f : Buf (Elt F) ((Memref.view oM).loc (tt d))) (O : CellTallies nD τ sig (HIx 1)) (W : Waits sig (HIx 1)) :
    ring d q0 q1 q2 q3 x w f O W 4
      ⊢ iprop(resting (F := F) d slot0 sem0 q0 x ∗ resting (F := F) d slot1 sem1 q1 x ∗ resting (F := F) d slot2 sem2 q2 x
            ∗ resting (F := F) d slot3 sem3 q3 x ∗ common d w x f O W 32) := by
  unfold ring slotSt
  rw [if_neg (by omega), if_neg (by omega), if_neg (by omega), if_neg (by omega)]

/-- The whole body: from four slots at rest to four slots at rest, every row of the scores stored. -/
theorem gate_body (q0 q1 q2 q3 : PosShare TreeShare)
    (x : Buf (Elt F) ((Memref.view xM).loc (tt d))) (w : Buf (Elt F) ((Memref.view wM).loc (tt d)))
    (f : Buf (Elt F) ((Memref.view oM).loc (tt d))) (O : CellTallies nD τ sig (HIx 1)) (W : Waits sig (HIx 1)) :
    iprop(resting (F := F) d slot0 sem0 q0 x ∗ resting (F := F) d slot1 sem1 q1 x ∗ resting (F := F) d slot2 sem2 q2 x
        ∗ resting (F := F) d slot3 sem3 q3 x ∗ common d w x f O W 0)
      ⊢ wp frame (wpE defs₀ 𝒱₀ (tt d) none) Set.univ
          (cc0__gate_matmul_body (F := F) xM (Memref.isWhole_whole _) wM (Memref.isWhole_whole _) oM (Memref.isWhole_whole _) rM (Memref.isWhole_whole _) cc0_scratch1)
          fun _ => iprop(resting (F := F) d slot0 sem0 q0 x ∗ resting (F := F) d slot1 sem1 q1 x ∗ resting (F := F) d slot2 sem2 q2 x
            ∗ resting (F := F) d slot3 sem3 q3 x ∗ common d w x f O W 32) := by
  rw [cc0__gate_matmul_body_eq_skeleton]
  unfold cc0__gate_matmul_body_skel
  refine step_bind d (start d ![0, 0, 0] rfl rfl _ sem0 q0 x 0 (by omega) ![0, 0] rfl _ _ _ _) fun _ => ?_
  refine BI.BIBase.Entails.trans (?_ : _ ⊢ iprop(resting (F := F) d slot1 sem1 q1 x ∗
    (slotSt (F := F) d slot0 sem0 q0 x (chunkBuf x 0) 0 ∗ resting (F := F) d slot2 sem2 q2 x
        ∗ resting (F := F) d slot3 sem3 q3 x ∗ common d w x f O W 0)))
    (step_bind d (start d ![1, 0, 0] rfl rfl _ sem1 q1 x 1 (by omega) ![512, 0] rfl _ _ _ _) fun _ => ?_)
  · iintro ⟨H0, H1, H2, H3, HC⟩
    isplitl [H1]; · iexact H1
    isplitl [H0]; · iexact H0
    isplitl [H2]; · iexact H2
    isplitl [H3]; · iexact H3
    iexact HC
  refine BI.BIBase.Entails.trans (?_ : _ ⊢ iprop(resting (F := F) d slot2 sem2 q2 x ∗
    (slotSt (F := F) d slot0 sem0 q0 x (chunkBuf x 0) 0 ∗ slotSt (F := F) d slot1 sem1 q1 x (chunkBuf x 1) 1
        ∗ resting (F := F) d slot3 sem3 q3 x ∗ common d w x f O W 0)))
    (step_bind d (start d ![2, 0, 0] rfl rfl _ sem2 q2 x 2 (by omega) ![1024, 0] rfl _ _ _ _) fun _ => ?_)
  · iintro ⟨H1, H0, H2, H3, HC⟩
    isplitl [H2]; · iexact H2
    isplitl [H0]; · iexact H0
    isplitl [H1]; · iexact H1
    isplitl [H3]; · iexact H3
    iexact HC
  refine BI.BIBase.Entails.trans (?_ : _ ⊢ iprop(resting (F := F) d slot3 sem3 q3 x ∗
    (slotSt (F := F) d slot0 sem0 q0 x (chunkBuf x 0) 0 ∗ slotSt (F := F) d slot1 sem1 q1 x (chunkBuf x 1) 1
        ∗ slotSt (F := F) d slot2 sem2 q2 x (chunkBuf x 2) 2 ∗ common d w x f O W 0)))
    (step_bind d (start d ![3, 0, 0] rfl rfl _ sem3 q3 x 3 (by omega) ![1536, 0] rfl _ _ _ _) fun _ => ?_)
  · iintro ⟨H2, H0, H1, H3, HC⟩
    isplitl [H3]; · iexact H3
    isplitl [H0]; · iexact H0
    isplitl [H1]; · iexact H1
    isplitl [H2]; · iexact H2
    iexact HC
  iintro ⟨H3, H0, H1, H2, HC⟩
  sl_for (fun k (_ : Unit) => ring d q0 q1 q2 q3 x w f O W k) $$ [H0 H1 H2 H3 HC]
  case region =>
    intro k u
    exact gate_trip d q0 q1 q2 q3 x w f O W k u
  · unfold ring
    isplitl [H0]; · iexact H0
    isplitl [H1]; · iexact H1
    isplitl [H2]; · iexact H2
    isplitl [H3]; · iexact H3
    iexact HC
  rw [trips_four]
  iintro %u H
  sl_exec
  sl_step
  iapply (ring_last d q0 q1 q2 q3 x w f O W) $$ H

end Body

end Cert.Proof.Router
-- ==== Proof.GateRun.lean ====
/-
  The TensorCore kernel's body from whole buffers: the slots cut from one ring buffer, the tokens' read shares cut
  from one array, and all of them joined back at the end.
-/
module

public import proofs.«01_k».proof.Proof.GateBody
public import Idealize.ShloMosaic.Lib.Pipeline.ValueKit
public import Idealize.ShloMosaic.Lib.Pipeline.Value
public import Idealize.ShloMosaic.Lib.Ring

@[expose] public section

set_option maxRecDepth 16384

noncomputable section

namespace Cert.Proof.Router

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

local notation "xM" => (Memref.whole Cert.KernelIdeal.main_arg0 : Memref Cert.KernelIdeal.sig Kind.tc Space.hbm Cert.KernelIdeal.S8192x2048 EltTy.f32)
local notation "wM" => (Memref.whole Cert.KernelIdeal.cc0_stg0_0 : Memref Cert.KernelIdeal.sig Kind.tc Space.vmem Cert.KernelIdeal.S16x2048 EltTy.f32)
local notation "oM" => (Memref.whole Cert.KernelIdeal.cc0_stg1_0 : Memref Cert.KernelIdeal.sig Kind.tc Space.vmem Cert.KernelIdeal.S32x16x256 EltTy.f32)
local notation "rM" => (Memref.whole Cert.KernelIdeal.cc0_scratch0 : Memref Cert.KernelIdeal.sig Kind.tc Space.vmem Cert.KernelIdeal.S4x512x2048 EltTy.f32)

section Body

variable (d : Dev nD)

/-! ## The slots as parts of one buffer, the tokens as read shares of one -/

/-- A conjunction over four places is its four parts. -/
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- Slot `b`'s elements of the ring buffer. -/
def slotSet (b : Fin 4) : Finset S4x512x2048.Idx :=
  (Rect.unit (s := S4x512x2048) ![b.val, 0, 0] S1x512x2048.size (by
    intro a; have := b.isLt; fin_cases a <;> simp [S1x512x2048, S4x512x2048] <;> omega)).set

/-- Two slots share no element. -/
theorem slotSet_disjoint (b b' : Fin 4) (h : b ≠ b') (i : S4x512x2048.Idx) (hi : i ∈ slotSet b) : i ∉ slotSet b' :=
  Finset.disjoint_left.1 (Ring.lead_disjoint (s := S4x512x2048) (NB := 4) 0 1 (fun b => ![b.val, 0, 0]) S1x512x2048.size _
    (fun b => by simp) rfl b b' h) hi

/-- Every element of the ring buffer lies in a slot. -/
theorem slotSet_cover (i : S4x512x2048.Idx) : ∃ b, i ∈ slotSet b := by
  have h := Ring.lead_cover (s := S4x512x2048) (NB := 4) 0 1 (fun b => ![b.val, 0, 0]) S1x512x2048.size
    (fun b a => by have := b.isLt; fin_cases a <;> simp [S1x512x2048, S4x512x2048] <;> omega)
    (fun b => by simp) (fun b a ha => by fin_cases a <;> simp_all) rfl
    (fun a ha => by fin_cases a <;> simp_all [S1x512x2048, S4x512x2048]) rfl
  have hi : i ∈ (Finset.univ : Finset S4x512x2048.Idx) := Finset.mem_univ i
  rw [← h, Finset.mem_biUnion] at hi
  obtain ⟨b, -, hb⟩ := hi
  exact ⟨b, hb⟩

/-- The first slot's view covers the first slot's elements. -/
theorem slot0_set : slot0.view.set = slotSet 0 := (View.set_reshape _ _).trans (View.set_slice_whole _ _)
/-- The second slot's view covers the second slot's elements. -/
theorem slot1_set : slot1.view.set = slotSet 1 := (View.set_reshape _ _).trans (View.set_slice_whole _ _)
/-- The third slot's view covers the third slot's elements. -/
theorem slot2_set : slot2.view.set = slotSet 2 := (View.set_reshape _ _).trans (View.set_slice_whole _ _)
/-- The fourth slot's view covers the fourth slot's elements. -/
theorem slot3_set : slot3.view.set = slotSet 3 := (View.set_reshape _ _).trans (View.set_slice_whole _ _)

/-- The share of the tokens that slot `i` reads with. -/
abbrev tok (i : Fin 4) : PosShare TreeShare := Transfers.shareTok fullShare 4 i

/-- What is held around the body besides `common`: the tokens, the ring buffer, its four semaphores at zero. -/
def around (x : Buf (Elt F) ((Memref.view xM).loc (tt d))) : sProp 𝕄 :=
  iprop(((Memref.view xM).loc (tt d) ↦{fullShare} x) ∗ (∃ r, (Memref.view rM).loc (tt d) ↦{fullShare} r)
    ∗ semVal ((tt d), SemLoc.dma sem0) 0 ∗ semVal ((tt d), SemLoc.dma sem1) 0
    ∗ semVal ((tt d), SemLoc.dma sem2) 0 ∗ semVal ((tt d), SemLoc.dma sem3) 0)

/-- The four slots at rest, and the share of the tokens no slot reads. -/
def rests (x : Buf (Elt F) ((Memref.view xM).loc (tt d))) : sProp 𝕄 :=
  iprop(resting (F := F) d slot0 sem0 (tok 0) x ∗ resting (F := F) d slot1 sem1 (tok 1) x ∗ resting (F := F) d slot2 sem2 (tok 2) x
    ∗ resting (F := F) d slot3 sem3 (tok 3) x ∗ ((Memref.view xM).loc (tt d) ↦{Transfers.shareDrop fullShare 4} x))

/-- The tokens held whole give each slot its read share, and a rest. -/
theorem toks_split (x : Buf (Elt F) ((Memref.view xM).loc (tt d))) :
    ((Memref.view xM).loc (tt d) ↦{fullShare} x : sProp 𝕄)
      ⊢ iprop(((Memref.view xM).loc (tt d) ↦{Transfers.shareDrop fullShare 4} x) ∗ bigSep Finset.univ (fun i : Fin 4 => (Memref.view xM).loc (tt d) ↦{tok i} x)) :=
  Transfers.pointsTo_toks_split fullShare 4

/-- The slots' read shares and the rest are the tokens held whole. -/
theorem toks_join (x : Buf (Elt F) ((Memref.view xM).loc (tt d))) :
    iprop(((Memref.view xM).loc (tt d) ↦{Transfers.shareDrop fullShare 4} x) ∗ bigSep Finset.univ (fun i : Fin 4 => (Memref.view xM).loc (tt d) ↦{tok i} x))
      ⊢ ((Memref.view xM).loc (tt d) ↦{fullShare} x : sProp 𝕄) :=
  Transfers.pointsTo_toks_join fullShare 4

/-- The ring buffer held whole gives each slot its elements. -/
theorem slots_split (r : Buf (Elt F) ((Memref.view rM).loc (tt d))) :
    ((Memref.view rM).loc (tt d) ↦{fullShare} r : sProp 𝕄)
      ⊢ bigSep Finset.univ (fun b : Fin 4 => (Memref.view rM).loc (tt d) ↦[slotSet b]{fullShare} r) :=
  split_parts (F := F) (ℓ := (Memref.view rM).loc (tt d)) (B := Fin 4) slotSet slotSet_disjoint slotSet_cover r

/-- The four slots, each with some contents, are the ring buffer with some contents. -/
theorem slots_join (f₀ : Buf (Elt F) ((Memref.view rM).loc (tt d))) :
    bigSep Finset.univ (fun b : Fin 4 => iprop(∃ r, (Memref.view rM).loc (tt d) ↦[slotSet b]{fullShare} r))
      ⊢ (iprop(∃ r, (Memref.view rM).loc (tt d) ↦{fullShare} r) : sProp 𝕄) :=
  join_parts (F := F) (ℓ := (Memref.view rM).loc (tt d)) (B := Fin 4) slotSet slotSet_disjoint slotSet_cover f₀

/-- What is held before the body is the four slots at rest. -/
theorem around_rests (x : Buf (Elt F) ((Memref.view xM).loc (tt d))) : around d x ⊢ rests d x := by
  have hx := toks_split d x
  rw [bigSep_four] at hx
  have hr := slots_split (F := F) d
  simp only [bigSep_four] at hr
  unfold around rests resting
  rw [slot0_set, slot1_set, slot2_set, slot3_set]
  iintro ⟨HX, ⟨%r, HR⟩, Hs0, Hs1, Hs2, Hs3⟩
  icases hx $$ HX with ⟨Hd, H0, H1, H2, H3⟩
  icases (hr r) $$ HR with ⟨R0, R1, R2, R3⟩
  isplitl [Hs0 R0 H0]
  · isplitl [Hs0]; · iexact Hs0
    isplitl [R0]; · iexists r; iexact R0
    iexact H0
  isplitl [Hs1 R1 H1]
  · isplitl [Hs1]; · iexact Hs1
    isplitl [R1]; · iexists r; iexact R1
    iexact H1
  isplitl [Hs2 R2 H2]
  · isplitl [Hs2]; · iexact Hs2
    isplitl [R2]; · iexists r; iexact R2
    iexact H2
  isplitl [Hs3 R3 H3]
  · isplitl [Hs3]; · iexact Hs3
    isplitl [R3]; · iexists r; iexact R3
    iexact H3
  iexact Hd

/-- The four slots at rest are what is held after the body. -/
theorem rests_around (x : Buf (Elt F) ((Memref.view xM).loc (tt d))) : rests d x ⊢ around d x := by
  have hx := toks_join d x
  rw [bigSep_four] at hx
  have hr := slots_join (F := F) d
  simp only [bigSep_four] at hr
  unfold around rests resting
  rw [slot0_set, slot1_set, slot2_set, slot3_set]
  iintro ⟨⟨Hs0, ⟨%r0, R0⟩, H0⟩, ⟨Hs1, ⟨%r1, R1⟩, H1⟩, ⟨Hs2, ⟨%r2, R2⟩, H2⟩, ⟨Hs3, ⟨%r3, R3⟩, H3⟩, Hd⟩
  isplitl [Hd H0 H1 H2 H3]
  · iapply hx
    isplitl [Hd]; · iexact Hd
    isplitl [H0]; · iexact H0
    isplitl [H1]; · iexact H1
    isplitl [H2]; · iexact H2
    iexact H3
  isplitl [R0 R1 R2 R3]
  · iapply (hr r0)
    isplitl [R0]; · iexists r0; iexact R0
    isplitl [R1]; · iexists r1; iexact R1
    isplitl [R2]; · iexists r2; iexact R2
    iexists r3; iexact R3
  isplitl [Hs0]; · iexact Hs0
  isplitl [Hs1]; · iexact Hs1
  isplitl [Hs2]; · iexact Hs2
  iexact Hs3

/-- The whole body from whole buffers: the tokens come back as they were, the result is at the scores. -/
theorem gate_run (x : Buf (Elt F) ((Memref.view xM).loc (tt d))) (w : Buf (Elt F) ((Memref.view wM).loc (tt d)))
    (f : Buf (Elt F) ((Memref.view oM).loc (tt d))) (O : CellTallies nD τ sig (HIx 1)) (W : Waits sig (HIx 1)) :
    iprop(around d x ∗ Transfers.MayWaits (tt d) (default : HIx 1) O ∗ ((Memref.view wM).loc (tt d) ↦{fullShare} w)
        ∗ ((Memref.view oM).loc (tt d) ↦{fullShare} f) ∗ owes (tt d) O W)
      ⊢ wp frame (wpE defs₀ 𝒱₀ (tt d) none) Set.univ
          (cc0__gate_matmul_body (F := F) xM (Memref.isWhole_whole _) wM (Memref.isWhole_whole _) oM (Memref.isWhole_whole _) rM (Memref.isWhole_whole _) cc0_scratch1)
          fun _ => iprop(around d x ∗ ((Memref.view wM).loc (tt d) ↦{fullShare} w)
            ∗ ((Memref.view oM).loc (tt d) ↦{fullShare} scoresOf w x) ∗ ∃ W', ⌜∀ p ∈ W', p ∈ W ∨ p.2 = none⌝ ∗ owes (tt d) O W') := by
  have h := gate_body d (tok 0) (tok 1) (tok 2) (tok 3) x w f O W
  refine BI.BIBase.Entails.trans (?_ : _ ⊢ iprop((resting (F := F) d slot0 sem0 (tok 0) x ∗ resting (F := F) d slot1 sem1 (tok 1) x ∗ resting (F := F) d slot2 sem2 (tok 2) x
        ∗ resting (F := F) d slot3 sem3 (tok 3) x ∗ common d w x f O W 0) ∗ ((Memref.view xM).loc (tt d) ↦{Transfers.shareDrop fullShare 4} x))) ((BI.sep_mono h (BI.Entails.refl ((Memref.view xM).loc (tt d) ↦{Transfers.shareDrop fullShare 4} x))).trans ((wp_frame_r _ _ _).trans (wp_mono _ _ _ fun _ => ?_)))
  · unfold common
    iintro ⟨HA, HM, Hw, Ho, HO⟩
    ihave HA := (around_rests d x) $$ HA
    unfold rests
    icases HA with ⟨H0, H1, H2, H3, Hd⟩
    isplitr [Hd]
    · isplitl [H0]; · iexact H0
      isplitl [H1]; · iexact H1
      isplitl [H2]; · iexact H2
      isplitl [H3]; · iexact H3
      isplitl [HM]; · iexact HM
      isplitl [Hw]; · iexact Hw
      isplitl [Ho]
      · iexists f
        isplitr [Ho]
        · ipureintro; rw [fillR_zero]; rfl
        · iexact Ho
      iexists W
      isplitr [HO]
      · ipureintro; exact fun p hp => Or.inl hp
      · iexact HO
    iexact Hd
  · refine BI.BIBase.Entails.trans (?_ : iprop((resting (F := F) d slot0 sem0 (tok 0) x ∗ resting (F := F) d slot1 sem1 (tok 1) x ∗ resting (F := F) d slot2 sem2 (tok 2) x
        ∗ resting (F := F) d slot3 sem3 (tok 3) x ∗ common d w x f O W 32) ∗ ((Memref.view xM).loc (tt d) ↦{Transfers.shareDrop fullShare 4} x)) ⊢ _) (BI.Entails.refl _)
    unfold common
    iintro ⟨⟨H0, H1, H2, H3, -, Hw, ⟨%c, %hc, Ho⟩, HO⟩, Hd⟩
    have e : c = scoresOf w x := by rw [fillR_all] at hc; exact hc
    subst e
    isplitl [H0 H1 H2 H3 Hd]
    · iapply (rests_around d x)
      unfold rests
      isplitl [H0]; · iexact H0
      isplitl [H1]; · iexact H1
      isplitl [H2]; · iexact H2
      isplitl [H3]; · iexact H3
      iexact Hd
    isplitl [Hw]; · iexact Hw
    isplitl [Ho]; · iexact Ho
    iexact HO

end Body

end Cert.Proof.Router
-- ==== Proof.Region.lean ====
/-
  The TensorCore kernel as one region of the program: entered from the tokens, the weights and the score array, left
  with the score array at the scores.
-/
module

public import proofs.«01_k».proof.Proof.GateRun
public import Idealize.ShloMosaic.Lib.Pipeline.ValueKit
public import Idealize.ShloMosaic.Lib.Pipeline.Value
public import Idealize.ShloMosaic.Lib.Ring

@[expose] public section

set_option maxRecDepth 16384

noncomputable section

namespace Cert.Proof.Router

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

local notation "xM" => (Memref.whole Cert.KernelIdeal.main_arg0 : Memref Cert.KernelIdeal.sig Kind.tc Space.hbm Cert.KernelIdeal.S8192x2048 EltTy.f32)
local notation "wM" => (Memref.whole Cert.KernelIdeal.cc0_stg0_0 : Memref Cert.KernelIdeal.sig Kind.tc Space.vmem Cert.KernelIdeal.S16x2048 EltTy.f32)
local notation "oM" => (Memref.whole Cert.KernelIdeal.cc0_stg1_0 : Memref Cert.KernelIdeal.sig Kind.tc Space.vmem Cert.KernelIdeal.S32x16x256 EltTy.f32)
local notation "rM" => (Memref.whole Cert.KernelIdeal.cc0_scratch0 : Memref Cert.KernelIdeal.sig Kind.tc Space.vmem Cert.KernelIdeal.S4x512x2048 EltTy.f32)

/-! ## The body from what the region hands it -/

section Region

variable (m : (ℓ : Loc nD τ sig) → Buf (Elt F) ℓ) (d : Dev nD)

/-- The gating kernel's run, with what follows it as a continuation. -/
theorem gate_run_k (x : Buf (Elt F) ((Memref.view xM).loc (tt d))) (w : Buf (Elt F) ((Memref.view wM).loc (tt d)))
    (f : Buf (Elt F) ((Memref.view oM).loc (tt d))) (O : CellTallies nD τ sig (HIx 1)) (W : Waits sig (HIx 1)) (Q : PUnit → sProp 𝕄) :
    iprop((around d x ∗ Transfers.MayWaits (tt d) (default : HIx 1) O ∗ ((Memref.view wM).loc (tt d) ↦{fullShare} w)
        ∗ ((Memref.view oM).loc (tt d) ↦{fullShare} f) ∗ owes (tt d) O W)
        ∗ (iprop(around d x ∗ ((Memref.view wM).loc (tt d) ↦{fullShare} w)
            ∗ ((Memref.view oM).loc (tt d) ↦{fullShare} scoresOf w x) ∗ ∃ W', ⌜∀ p ∈ W', p ∈ W ∨ p.2 = none⌝ ∗ owes (tt d) O W') -∗ Q ⟨⟩))
      ⊢ wp frame (wpE defs₀ 𝒱₀ (tt d) none) Set.univ
          (cc0__gate_matmul_body (F := F) xM (Memref.isWhole_whole _) wM (Memref.isWhole_whole _) oM (Memref.isWhole_whole _) rM (Memref.isWhole_whole _) cc0_scratch1)
          Q := by
  refine (BI.sep_mono (gate_run d x w f O W) (BI.Entails.refl _)).trans ((wp_frame_r _ _ _).trans (wp_mono _ _ _ fun _ => ?_))
  show iprop(_ ∗ (_ -∗ Q ⟨⟩)) ⊢ Q ⟨⟩
  iintro ⟨H, Hk⟩
  iapply Hk
  iexact H

/-! ## The proof data -/

/-- The scores of the launch memory's tokens and weights. -/
def scoresAt : S32x16x256.Idx → F .f32 := scoresOf (m (wLoc d)) (m (xLoc d))

/-- The bound on the waits recorded: those at the lowest level. -/
def lowWaits : Set (SemLoc sig × HIx 1) := {p | (K (F := F)).lev (tt d, p.1) p.2 ≤ 0}

/-- The region's proof data: the two arrays as launched; the staged weights kept, the staged scores computed; the tokens,
    the ring buffer and its semaphores between. -/
def gDat : Pipeline.Dat τ (Elt F) (HIx 1) ℕ UU ℕ cfg0 d where
  A w := m ((tt d).loc (Pipeline.arrRef spec0 w))
  after w _ := match w with
    | ⟨0, _⟩ => m (wLoc d)
    | ⟨1, _⟩ => scoresAt m d
  Φ _ := iprop(around d (m (xLoc d)) ∗ Transfers.MayWaits (tt d) (default : HIx 1) ((K (F := F)).Otc d 0))
  q _ := fullShare
  owed _ := (K (F := F)).Otc d 0
  recorded _ := lowWaits (F := F) d

/-- The weights' only block is the weights. -/
theorem blk_read : ((cfg0.win 0).blk t0_0).view.read (Elt F) (m (wLoc d)) = m (wLoc d) := by
  funext i
  rw [View.read_apply]
  show m (wLoc d) _ = m (wLoc d) i
  congr 1
  funext a; apply Fin.ext
  show 0 * _ + 1 * (i a).val = (i a).val
  omega

/-- The weights' staging buffer starts with the weights. -/
theorem before_in (e : (cfg0.win 0).block.Idx → Elt F (cfg0.win 0).elt) : (gDat m d).before 0 t0_0 e = m (wLoc d) := by
  unfold Pipeline.Dat.before; rw [if_pos (by decide)]
  exact blk_read m d

/-- The region's body leaves the weights staged, the scores computed, and the rest as it was. -/
theorem body_obligation : Pipeline.BodyObligation (gDat m d) (defs₀ (F := F)) 𝒱₀ (none : HIx 1) Set.univ := fun t => by
  obtain rfl := fin_N0 t
  rw [bigSep_W0, bigSep_W0]
  simp only [owns_whole_eq]
  rw [show (gDat m d).Φ t0_0.castSucc = iprop(around d (m (xLoc d)) ∗ Transfers.MayWaits (tt d) (default : HIx 1) ((K (F := F)).Otc d 0)) from rfl,
    show (gDat m d).Φ t0_0.succ = iprop(around d (m (xLoc d)) ∗ Transfers.MayWaits (tt d) (default : HIx 1) ((K (F := F)).Otc d 0)) from rfl]
  iintro ⟨HΦ, ⟨%W, %hW, HO⟩, ⟨%d0, %f0, %hf0, H0⟩, ⟨%d1, %f1, -, H1⟩⟩
  rw [before_in] at hf0
  subst hf0
  icases HΦ with ⟨HA, #HM⟩
  iapply (gate_run_k d (m (xLoc d)) (m (wLoc d)) f1 ((K (F := F)).Otc d 0) W _)
  isplitl [HA H0 H1 HO]
  · isplitl [HA]; · iexact HA
    isplitr; · iexact HM
    isplitl [H0]; · iexact H0
    isplitl [H1]; · iexact H1
    iexact HO
  iintro ⟨HA, H0, H1, %W', %hW', HO⟩
  isplitl [HA]
  · isplitl [HA]; · iexact HA
    iexact HM
  isplitl [HO]
  · iexists W'; isplitr; rotate_left; · iexact HO
    ipureintro
    intro p hp
    rcases hW' p hp with h | h
    · exact hW h
    · exact Or.inl (by
        show (K (F := F)).lev (tt d, p.1) p.2 ≤ 0
        rw [h]; exact le_rfl)
  isplitl [H0]
  · iexists _; isplitr; rotate_left; · iexact H0
    ipureintro; rfl
  iexists _; isplitr; rotate_left; · iexact H1
  ipureintro; rfl

/-- The scores' array after the region: the whole of it as the body computed it. -/
theorem scores_after : (gDat m d).arrAt 1 cfg0.N = scoresAt m d := by
  have hN : (gDat m d).arrAt 1 cfg0.N
      = ((cfg0.win 1).blk t0_0).view.write (Elt F) ((gDat m d).A 1) ((gDat m d).flushed 1 t0_0) Finset.univ := by
    show (gDat m d).arrAt 1 (0 + 1) = _
    rw [Pipeline.Dat.arrAt]
    dsimp only
    rw [dif_pos (by decide : 0 < cfg0.N), if_pos (by decide)]
    rfl
  rw [hN]
  funext i
  have hi : ((cfg0.win 1).blk t0_0).view.emb i = i := by
    funext a; apply Fin.ext
    show 0 * _ + 1 * (i a).val = (i a).val
    omega
  have := View.write_emb_of_mem (v := ((cfg0.win 1).blk t0_0).view) (Val := Elt F) ((gDat m d).A 1) ((gDat m d).flushed 1 t0_0) (Finset.mem_univ i)
  rw [hi] at this
  rw [this]
  rfl

/-! ## The region -/

/-- The launch's pipelines' admissible tables. -/
abbrev adm : (p : Fin 1) → (pcfgs (F := F) p).Adm := fun q => (cfgs q).toPCfg_adm

/-- The proof data, by pipeline. -/
def pdats : (p : Fin 1) → (c : Dev nD) → Pipeline.Dat τ (Elt F) (HIx 1) ℕ UU ℕ (Pipeline.pin (pcfgs (F := F)) adm p) c
  | ⟨0, _⟩ => fun c => gDat m c

/-- The four copy semaphores of the ring. -/
def ringSem : Fin 4 → SemLoc sig
  | ⟨0, _⟩ => .dma sem0
  | ⟨1, _⟩ => .dma sem1
  | ⟨2, _⟩ => .dma sem2
  | ⟨3, _⟩ => .dma sem3

/-- The ring's semaphores are distinct and none of the pipeline's. -/
theorem ringFacts : Pipeline.OwnSemFacts spec0 ringSem := by decide

set_option backward.isDefEq.respectTransparency.types false in
/-- The region's two arrays, each whole at the full share. -/
theorem arrays_two (c : Dev nD) (A : (w : Fin (Pipeline.pin (pcfgs (F := F)) adm 0).W) → Buf (Elt F) (((Pipeline.pin (pcfgs (F := F)) adm 0).win w).arr.view.loc (c.tc : Thread nD τ))) :
    ((pdats m 0 c).arrays A : sProp 𝕄) = iprop((wLoc c ↦{fullShare} A 0) ∗ (scLoc c ↦{fullShare} A 1)) := by
  unfold Pipeline.Dat.arrays
  rw [show (fun w => _ : Fin (Pipeline.pin (pcfgs (F := F)) adm 0).W → sProp 𝕄) = fun w => (((c.tc : Thread nD τ).loc (Pipeline.arrRef spec0 w)) ↦{fullShare} A w : sProp 𝕄) from
    funext fun w => by rw [((pdats m 0 c).share_full fun _ => rfl) w, (launch0.arr_whole w).set_eq_univ]]
  exact bigSep_W0 _

/-- The ring's semaphores at zero, one by one. -/
theorem ownSems0_ring (c : Dev nD) : (Pipeline.ownSems0 ringSem c : sProp 𝕄)
    = iprop(semVal ((tt c), SemLoc.dma sem0) 0 ∗ semVal ((tt c), SemLoc.dma sem1) 0
        ∗ semVal ((tt c), SemLoc.dma sem2) 0 ∗ semVal ((tt c), SemLoc.dma sem3) 0) := by
  unfold Pipeline.ownSems0
  exact bigSep_four _

/-- The TensorCore owes nothing at the lowest level. -/
theorem Otc_none (g : GSem nD τ sig) (n : ℕ) : (K (F := F)).Otc d n g none = 0 := by
  unfold SparseCore.Cfg.Otc
  rw [Finset.sum_apply, Finsupp.finset_sum_apply]
  refine Finset.sum_eq_zero fun q _ => ?_
  split
  · rw [Finset.sum_apply, Finsupp.finset_sum_apply]
    exact Finset.sum_eq_zero fun c _ => by
      rw [tallyAt_apply]; exact if_neg fun h => by simpa using h.2
  · rfl

set_option backward.isDefEq.respectTransparency.types false in
/-- The gating kernel's region: from the tokens, the weights and the scores' array, each whole, to the same with the scores
    computed. The tokens and the ring's semaphores enter the invariant; the launch's debts pass through. -/
def reg : Pipeline.RegionSeg (pcfgs (F := F)) adm (pdats m) (none : HIx 1) (defs₀ (F := F)) 𝒱₀ (K (F := F)).L (K (F := F)).lev 0 where
  win := launch0.win.to₀
  block_pos := launch0.block_pos
  stage_whole := launch0.stage_whole
  K := Fin 4
  osem := ringSem
  ho := ringFacts
  hbody c := (body_obligation m c).loose
  hwaits c := Pipeline.cellsWaits_of_cut (Pipeline.pin (pcfgs (F := F)) adm) (pdats m) (none : HIx 1) 0 c 0 ((K (F := F)).Otc c 0)
    (fun _ => rfl) (fun _ _ => Finset.mem_univ _) (fun _ _ => le_rfl) (fun g i h => ⟨Finset.mem_univ _, by
      cases i with
      | none => rw [Otc_none] at h; exact absurd h (Nat.lt_irrefl 0)
      | some q => exact (K (F := F)).lev_some_pos g q⟩)
  pre c := iprop((xLoc c ↦{fullShare} m (xLoc c)) ∗ (wLoc c ↦{fullShare} m (wLoc c)) ∗ (scLoc c ↦{fullShare} m (scLoc c))
    ∗ ∃ W, ⌜(K (F := F)).WBelow (tt c) W 0⌝ ∗ owes (tt c) ((K (F := F)).Otc c 0) W)
  post c := iprop((xLoc c ↦{fullShare} m (xLoc c)) ∗ (wLoc c ↦{fullShare} m (wLoc c)) ∗ (scLoc c ↦{fullShare} scoresAt m c)
    ∗ ∃ W, ⌜(K (F := F)).WBelow (tt c) W 0⌝ ∗ owes (tt c) ((K (F := F)).Otc c 0) W)
  X c := iprop((xLoc c ↦{fullShare} m (xLoc c)) ∗ Pipeline.ownSems0 ringSem c ∗ Transfers.MayWaits (tt c) (default : HIx 1) ((K (F := F)).Otc c 0))
  Y c := iprop(xLoc c ↦{fullShare} m (xLoc c))
  Z _ := BI.emp
  hentry c := by
    iintro ⟨⟨Hx, Hw, Hs, %W, %hW, HO⟩, Hsem, #Hl⟩
    imodintro
    isplitl [Hw Hs]
    · iapply (BI.BIBase.Entails.of_eq (arrays_two m c _).symm)
      isplitl [Hw]; · iexact Hw
      iexact Hs
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; rotate_left; · iexact HO
      ipureintro; exact fun p hp => Or.inl (hW p hp)
    isplitl [Hx Hsem]
    · isplitl [Hx]; · iexact Hx
      isplitl [Hsem]; · iexact Hsem
      iapply ((K (F := F)).mayWaits_none (fun g => Otc_none c g 0)); iexact Hl
    iempintro
  hin c := by
    rw [show (pdats m 0 c).Φ 0 = iprop(around c (m (xLoc c)) ∗ Transfers.MayWaits (tt c) (default : HIx 1) ((K (F := F)).Otc c 0)) from rfl]
    rw [scopedRest0_eq]
    unfold around
    rw [ownSems0_ring]
    iintro ⟨⟨Hx, Hsem, HM⟩, -, Hr⟩
    isplitr [HM]; rotate_left; · iexact HM
    isplitl [Hx]; · iexact Hx
    isplitl [Hr]; · iexact Hr
    iexact Hsem
  hout c := by
    rw [show (pdats m 0 c).Φ (Fin.last _) = iprop(around c (m (xLoc c)) ∗ Transfers.MayWaits (tt c) (default : HIx 1) ((K (F := F)).Otc c 0)) from rfl]
    rw [scopedRest0_eq]
    unfold around
    rw [ownSems0_ring]
    iintro ⟨⟨Hx, Hr, Hsem⟩, -⟩
    isplitl [Hx]; · iexact Hx
    isplitl [Hsem]; · iexact Hsem
    iexact Hr
  hexit c := by
    unfold Pipeline.Dat.owesAt Pipeline.owesWithin
    iintro ⟨Ha, ⟨%W, %hW, HO⟩, Hx, -⟩
    ihave H := (BI.BIBase.Entails.of_eq (arrays_two m c _)) $$ Ha
    icases H with ⟨Hw, Hs⟩
    imodintro
    isplitl [Hx]; · iexact Hx
    isplitl [Hw]; · iapply (BI.BIBase.Entails.of_eq (congrArg (fun f => (wLoc c ↦{fullShare} f : sProp 𝕄)) ((gDat m c).arrAt_in 0 rfl cfg0.N))); iexact Hw
    isplitl [Hs]; · iapply (BI.BIBase.Entails.of_eq (congrArg (fun f => (scLoc c ↦{fullShare} f : sProp 𝕄)) (scores_after m c))); iexact Hs
    iexists W; isplitr; rotate_left; · iexact HO
    ipureintro
    intro p hp
    rcases hW hp with h | h
    · exact h
    · obtain ⟨w, s, rfl⟩ := h
      exact le_rfl

end Region

end Cert.Proof.Router
-- ==== Proof.Router.lean ====
/-
  One task of the SparseCore kernel, on any vector subcore: it copies its block of scores and the bias in, goes through
  the sixteen groups of sixteen tokens storing each group's four result vectors, and copies the four results out. The
  theorem `tile_body` states what it leaves in the four result arrays.
-/
module

public import proofs.«01_k».proof.Proof.RouterVal
public import Idealize.ShloMosaic.Lib.Pipeline.ValueKit
public import Idealize.ShloMosaic.Lib.Pipeline.Value

@[expose] public section

set_option maxRecDepth 16384

noncomputable section

namespace Cert.Proof.Router

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

local notation "scM" => (Memref.whole Cert.KernelIdeal.main_v0_scv : Memref Cert.KernelIdeal.sig Kind.scVector Space.hbm Cert.KernelIdeal.S32x16x256 EltTy.f32)
local notation "bM" => (Memref.whole Cert.KernelIdeal.main_arg2_scv : Memref Cert.KernelIdeal.sig Kind.scVector Space.hbm Cert.KernelIdeal.S16 EltTy.f32)
local notation "o0M" => (Memref.whole Cert.KernelIdeal.main_v1_0_scv : Memref Cert.KernelIdeal.sig Kind.scVector Space.hbm Cert.KernelIdeal.S8192 EltTy.i32)
local notation "o1M" => (Memref.whole Cert.KernelIdeal.main_v1_1_scv : Memref Cert.KernelIdeal.sig Kind.scVector Space.hbm Cert.KernelIdeal.S8192 EltTy.i32)
local notation "o2M" => (Memref.whole Cert.KernelIdeal.main_v1_2_scv : Memref Cert.KernelIdeal.sig Kind.scVector Space.hbm Cert.KernelIdeal.S8192 EltTy.f32)
local notation "o3M" => (Memref.whole Cert.KernelIdeal.main_v1_3_scv : Memref Cert.KernelIdeal.sig Kind.scVector Space.hbm Cert.KernelIdeal.S8192 EltTy.f32)
local notation "s0M" => (Memref.whole Cert.KernelIdeal.cc1_scratch0 : Memref Cert.KernelIdeal.sig Kind.scVector Space.vmem Cert.KernelIdeal.S16x256 EltTy.f32)
local notation "s1M" => (Memref.whole Cert.KernelIdeal.cc1_scratch1 : Memref Cert.KernelIdeal.sig Kind.scVector Space.vmem Cert.KernelIdeal.S16 EltTy.f32)
local notation "s2M" => (Memref.whole Cert.KernelIdeal.cc1_scratch2 : Memref Cert.KernelIdeal.sig Kind.scVector Space.vmem Cert.KernelIdeal.S256 EltTy.i32)
local notation "s3M" => (Memref.whole Cert.KernelIdeal.cc1_scratch3 : Memref Cert.KernelIdeal.sig Kind.scVector Space.vmem Cert.KernelIdeal.S256 EltTy.i32)
local notation "s4M" => (Memref.whole Cert.KernelIdeal.cc1_scratch4 : Memref Cert.KernelIdeal.sig Kind.scVector Space.vmem Cert.KernelIdeal.S256 EltTy.f32)
local notation "s5M" => (Memref.whole Cert.KernelIdeal.cc1_scratch5 : Memref Cert.KernelIdeal.sig Kind.scVector Space.vmem Cert.KernelIdeal.S256 EltTy.f32)

/-! ## The block of the scores and of the results one task holds -/

/-- Row `w` of the scores. -/
def scSet (w : Fin 32) : Finset S32x16x256.Idx := Finset.univ.filter fun y => (y 0).val = w.val
/-- Tokens `256 w` to `256 w + 255` of a result array. -/
def oSet (w : Fin 32) : Finset S8192.Idx := Finset.univ.filter fun y => (y 0).val / 256 = w.val

/-- What task `w` holds: its row of the scores, a share of the bias, and its block of each of the four results. -/
def tileHeld (d : Dev nD) (w : Fin 32) (q : PosShare TreeShare) (sc : Buf (Elt F) (scLoc d)) (b : Buf (Elt F) (bLoc d))
    (g0 : Buf (Elt F) (i1Loc d)) (g1 : Buf (Elt F) (i2Loc d)) (g2 : Buf (Elt F) (v1Loc d)) (g3 : Buf (Elt F) (v2Loc d)) : sProp 𝕄 :=
  iprop((scLoc d ↦[scSet w]{fullShare} sc) ∗ (bLoc d ↦{q} b) ∗ (i1Loc d ↦[oSet w]{fullShare} g0) ∗ (i2Loc d ↦[oSet w]{fullShare} g1)
    ∗ (v1Loc d ↦[oSet w]{fullShare} g2) ∗ (v2Loc d ↦[oSet w]{fullShare} g3))

section Tile

variable (d : Dev nD) (L : grid1.Coords)

/-- The task's SparseCore. -/
abbrev cV (L : grid1.Coords) : Fin τ.nSC := (L 0).castLE hcore1
/-- The task's subcore. -/
abbrev jV (L : grid1.Coords) : Fin τ.nSub := (L 1).castLE hsub1

/-- The task's number: twice the subcore plus the core. -/
def wid (L : grid1.Coords) : Fin 32 :=
  ⟨2 * (L 1).val + (L 0).val, by
    have h0 : (L 0).val < 2 := (L 0).isLt
    have h1 : (L 1).val < 16 := (L 1).isLt
    omega⟩

/-- The row of the scores that the task copies in. -/
abbrev scRowK (L : grid1.Coords) : Memref sig .scVector .hbm S16x256 .f32 :=
  ((scM).slice (Rect.unit (s := S32x16x256) (k1_off1 L) S1x16x256.size (k1_off1_inb L)) (fun _ => rfl)).squeeze S16x256 squeezes_S1x16x256_S16x256
/-- The block of the first result that the task copies out to. -/
abbrev o0K (L : grid1.Coords) : Memref sig .scVector .hbm S256 .i32 := (o0M).slice (Rect.unit (s := S8192) (k1_off19 L) S256.size (k1_off19_inb L)) (fun _ => rfl)
/-- The block of the second result that the task copies out to. -/
abbrev o1K (L : grid1.Coords) : Memref sig .scVector .hbm S256 .i32 := (o1M).slice (Rect.unit (s := S8192) (k1_off19 L) S256.size (k1_off19_inb L)) (fun _ => rfl)
/-- The block of the third result that the task copies out to. -/
abbrev o2K (L : grid1.Coords) : Memref sig .scVector .hbm S256 .f32 := (o2M).slice (Rect.unit (s := S8192) (k1_off19 L) S256.size (k1_off19_inb L)) (fun _ => rfl)
/-- The block of the fourth result that the task copies out to. -/
abbrev o3K (L : grid1.Coords) : Memref sig .scVector .hbm S256 .f32 := (o3M).slice (Rect.unit (s := S8192) (k1_off19 L) S256.size (k1_off19_inb L)) (fun _ => rfl)

omit [FloatOps F] in
/-- The rectangle that the task copies in is row `wid L` of the scores. -/
theorem set_sc : (Rect.unit (s := S32x16x256) (k1_off1 L) S1x16x256.size (k1_off1_inb L)).set = scSet (wid L) := by
  ext y
  rw [Rect.mem_set_unit, k1_off1_eq]
  simp only [scSet, Finset.mem_filter, Finset.mem_univ, true_and]
  have h1 : (y 1).val < 16 := (y 1).isLt
  have h2 : (y 2).val < 256 := (y 2).isLt
  constructor
  · intro h
    have := h 0
    simp [wid] at this ⊢
    omega
  · intro h a
    match a with
    | 0 => simp [wid] at h ⊢; omega
    | 1 => simpa using h1
    | 2 => simpa using h2

omit [FloatOps F] in
/-- The rectangle that the task copies out to is block `wid L` of the tokens. -/
theorem set_o : (Rect.unit (s := S8192) (k1_off19 L) S256.size (k1_off19_inb L)).set = oSet (wid L) := by
  ext y
  rw [Rect.mem_set_unit, k1_off19_eq]
  simp only [oSet, Finset.mem_filter, Finset.mem_univ, true_and]
  constructor
  · intro h
    have := h 0
    simp [wid] at this ⊢
    omega
  · intro h a
    match a with
    | 0 => simp [wid] at h ⊢; omega

omit [FloatOps F] in
/-- The copied row's view covers row `wid L` of the scores. -/
theorem set_scRowK : (scRowK L).view.set = scSet (wid L) := by
  show (((scM).view.slice (Rect.unit (s := S32x16x256) (k1_off1 L) S1x16x256.size (k1_off1_inb L))).reshape S16x256 squeezes_S1x16x256_S16x256.numel_eq).set = _
  rw [View.set_reshape]
  exact (View.set_slice_whole _ _).trans (set_sc L)

omit [FloatOps F] in
/-- Holding the copied row through its view is holding row `wid L` of the scores. -/
theorem pts_scRowK (f : Buf (Elt F) (scLoc d)) :
    ((scRowK L).view.loc (V d (cV L) (jV L)) ↦[(scRowK L).view.set]{fullShare} f : sProp 𝕄) = scLoc d ↦[scSet (wid L)]{fullShare} f := by
  rw [set_scRowK]
omit [FloatOps F] in
/-- Holding the bias through the task's view is holding the bias. -/
theorem pts_b (q : PosShare TreeShare) (f : Buf (Elt F) (bLoc d)) :
    ((bM).view.loc (V d (cV L) (jV L)) ↦[(bM).view.set]{q} f : sProp 𝕄) = bLoc d ↦{q} f := by
  simp only [Memref.view_whole, View.set_whole]
omit [FloatOps F] in
/-- Holding the first result's block through its view is holding block `wid L` of it. -/
theorem pts_o0K (f : Buf (Elt F) (i1Loc d)) :
    ((o0K L).view.loc (V d (cV L) (jV L)) ↦[(o0K L).view.set]{fullShare} f : sProp 𝕄) = i1Loc d ↦[oSet (wid L)]{fullShare} f := by
  rw [show (o0K L).view.set = oSet (wid L) from (View.set_slice_whole _ _).trans (set_o L)]
omit [FloatOps F] in
/-- Holding the second result's block through its view is holding block `wid L` of it. -/
theorem pts_o1K (f : Buf (Elt F) (i2Loc d)) :
    ((o1K L).view.loc (V d (cV L) (jV L)) ↦[(o1K L).view.set]{fullShare} f : sProp 𝕄) = i2Loc d ↦[oSet (wid L)]{fullShare} f := by
  rw [show (o1K L).view.set = oSet (wid L) from (View.set_slice_whole _ _).trans (set_o L)]
omit [FloatOps F] in
/-- Holding the third result's block through its view is holding block `wid L` of it. -/
theorem pts_o2K (f : Buf (Elt F) (v1Loc d)) :
    ((o2K L).view.loc (V d (cV L) (jV L)) ↦[(o2K L).view.set]{fullShare} f : sProp 𝕄) = v1Loc d ↦[oSet (wid L)]{fullShare} f := by
  rw [show (o2K L).view.set = oSet (wid L) from (View.set_slice_whole _ _).trans (set_o L)]
omit [FloatOps F] in
/-- Holding the fourth result's block through its view is holding block `wid L` of it. -/
theorem pts_o3K (f : Buf (Elt F) (v2Loc d)) :
    ((o3K L).view.loc (V d (cV L) (jV L)) ↦[(o3K L).view.set]{fullShare} f : sProp 𝕄) = v2Loc d ↦[oSet (wid L)]{fullShare} f := by
  rw [show (o3K L).view.set = oSet (wid L) from (View.set_slice_whole _ _).trans (set_o L)]

/-! ## The subcore's own cells and buffers the task names -/

/-- The semaphore of the first copy, of the scores' row. -/
abbrev cell0 (d : Dev nD) (c : Fin τ.nSC) (i : Fin τ.nSub) : GSem nD τ sig := (V d c i, .dma cc1_scoped0.sem)
/-- The semaphore of the second copy, of the bias. -/
abbrev cell1 (d : Dev nD) (c : Fin τ.nSC) (i : Fin τ.nSub) : GSem nD τ sig := (V d c i, .dma cc1_scoped1.sem)
/-- The semaphore of the first result's copy. -/
abbrev cell2 (d : Dev nD) (c : Fin τ.nSC) (i : Fin τ.nSub) : GSem nD τ sig := (V d c i, .dma cc1_scoped2.sem)
/-- The semaphore of the second result's copy. -/
abbrev cell3 (d : Dev nD) (c : Fin τ.nSC) (i : Fin τ.nSub) : GSem nD τ sig := (V d c i, .dma cc1_scoped3.sem)
/-- The semaphore of the third result's copy. -/
abbrev cell4 (d : Dev nD) (c : Fin τ.nSC) (i : Fin τ.nSub) : GSem nD τ sig := (V d c i, .dma cc1_scoped4.sem)
/-- The semaphore of the fourth result's copy. -/
abbrev cell5 (d : Dev nD) (c : Fin τ.nSC) (i : Fin τ.nSub) : GSem nD τ sig := (V d c i, .dma cc1_scoped5.sem)

omit [FloatOps F] in
/-- The subcore's semaphores at zero: the six copies', and the others. -/
theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0
          ∗ semVal (cell3 d (cV L) (jV L)) 0 ∗ semVal (cell4 d (cV L) (jV L)) 0 ∗ semVal (cell5 d (cV L) (jV L)) 0
          ∗ bigSep (((((((ownCells (V d (cV L) (jV L))).erase (cell0 d (cV L) (jV L))).erase (cell1 d (cV L) (jV L))).erase (cell2 d (cV L) (jV L))).erase
              (cell3 d (cV L) (jV L))).erase (cell4 d (cV L) (jV L))).erase (cell5 d (cV L) (jV L))) fun g => semVal g 0) := by
  have m0 : cell0 d (cV L) (jV L) ∈ ownCells (V d (cV L) (jV L)) := mem_ownCells.mpr ⟨rfl, by
    show (SemLoc.dma cc1_scoped0.sem : SemLoc sig).isScoped .scVector = true; decide⟩
  have m1 : cell1 d (cV L) (jV L) ∈ ownCells (V d (cV L) (jV L)) := mem_ownCells.mpr ⟨rfl, by
    show (SemLoc.dma cc1_scoped1.sem : SemLoc sig).isScoped .scVector = true; decide⟩
  have m2 : cell2 d (cV L) (jV L) ∈ ownCells (V d (cV L) (jV L)) := mem_ownCells.mpr ⟨rfl, by
    show (SemLoc.dma cc1_scoped2.sem : SemLoc sig).isScoped .scVector = true; decide⟩
  have m3 : cell3 d (cV L) (jV L) ∈ ownCells (V d (cV L) (jV L)) := mem_ownCells.mpr ⟨rfl, by
    show (SemLoc.dma cc1_scoped3.sem : SemLoc sig).isScoped .scVector = true; decide⟩
  have m4 : cell4 d (cV L) (jV L) ∈ ownCells (V d (cV L) (jV L)) := mem_ownCells.mpr ⟨rfl, by
    show (SemLoc.dma cc1_scoped4.sem : SemLoc sig).isScoped .scVector = true; decide⟩
  have m5 : cell5 d (cV L) (jV L) ∈ ownCells (V d (cV L) (jV L)) := mem_ownCells.mpr ⟨rfl, by
    show (SemLoc.dma cc1_scoped5.sem : SemLoc sig).isScoped .scVector = true; decide⟩
  have ne (a b : SemLoc sig) (h : a ≠ b) : ((V d (cV L) (jV L), a) : GSem nD τ sig) ≠ (V d (cV L) (jV L), b) := fun e => h (congrArg Prod.snd e)
  unfold SparseCore.Cfg.ownSems0
  rw [SparseCore.bigSep_erase' m0,
    SparseCore.bigSep_erase' (Finset.mem_erase.mpr ⟨ne _ _ (by decide), m1⟩),
    SparseCore.bigSep_erase' (Finset.mem_erase.mpr ⟨ne _ _ (by decide), Finset.mem_erase.mpr ⟨ne _ _ (by decide), m2⟩⟩),
    SparseCore.bigSep_erase' (Finset.mem_erase.mpr ⟨ne _ _ (by decide), Finset.mem_erase.mpr ⟨ne _ _ (by decide), Finset.mem_erase.mpr ⟨ne _ _ (by decide), m3⟩⟩⟩),
    SparseCore.bigSep_erase' (Finset.mem_erase.mpr ⟨ne _ _ (by decide), Finset.mem_erase.mpr ⟨ne _ _ (by decide), Finset.mem_erase.mpr ⟨ne _ _ (by decide),
      Finset.mem_erase.mpr ⟨ne _ _ (by decide), m4⟩⟩⟩⟩),
    SparseCore.bigSep_erase' (Finset.mem_erase.mpr ⟨ne _ _ (by decide), Finset.mem_erase.mpr ⟨ne _ _ (by decide), Finset.mem_erase.mpr ⟨ne _ _ (by decide),
      Finset.mem_erase.mpr ⟨ne _ _ (by decide), Finset.mem_erase.mpr ⟨ne _ _ (by decide), m5⟩⟩⟩⟩⟩)]

/-- The device's buffer a subcore's scratch number `r` is. -/
abbrev scrRef (L : grid1.Coords) (r : Ref sig .scVector) : DevRef τ sig := (Proc.scVector (cV L) (jV L)).devRef r

omit [FloatOps F] in
/-- The subcore's buffers with some contents: the six scratches, and the others. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)
          ∗ (∃ f, (V d (cV L) (jV L)).loc cc1_scratch4 ↦{fullShare} f) ∗ (∃ f, (V d (cV L) (jV L)).loc cc1_scratch5 ↦{fullShare} f)
          ∗ bigSep (((((((ownRefs (τ := τ) (.scVector (cV L) (jV L))).erase (scrRef L cc1_scratch0)).erase (scrRef L cc1_scratch1)).erase (scrRef L cc1_scratch2)).erase
              (scrRef L cc1_scratch3)).erase (scrRef L cc1_scratch4)).erase (scrRef L cc1_scratch5))
              fun b => iprop(∃ f, ((d, b) : Loc nD τ sig) ↦{fullShare} f)) := by
  have mm (r : Ref sig .scVector) (h : (scrRef L r).owner = .proc (Proc.scVector (cV L) (jV L))) :
      scrRef L r ∈ ownRefs (τ := τ) (sig := sig) (.scVector (cV L) (jV L)) := SparseCore.Cfg.mem_ownRefs_of_owner h
  have ne (a b : Ref sig .scVector) (h : a ≠ b) : scrRef L a ≠ scrRef L b := fun e => h (Proc.devRef_injective _ e)
  unfold SparseCore.Cfg.ownBufs
  refine (SparseCore.bigSep_erase' (mm cc1_scratch0 rfl)).trans ?_
  rw [SparseCore.bigSep_erase' (Finset.mem_erase.mpr ⟨ne _ _ (show cc1_scratch1 ≠ cc1_scratch0 by decide), mm cc1_scratch1 rfl⟩),
    SparseCore.bigSep_erase' (Finset.mem_erase.mpr ⟨ne _ _ (show cc1_scratch2 ≠ cc1_scratch1 by decide), Finset.mem_erase.mpr ⟨ne _ _ (by decide), mm cc1_scratch2 rfl⟩⟩),
    SparseCore.bigSep_erase' (Finset.mem_erase.mpr ⟨ne _ _ (show cc1_scratch3 ≠ cc1_scratch2 by decide), Finset.mem_erase.mpr ⟨ne _ _ (by decide), Finset.mem_erase.mpr ⟨ne _ _ (by decide), mm cc1_scratch3 rfl⟩⟩⟩),
    SparseCore.bigSep_erase' (Finset.mem_erase.mpr ⟨ne _ _ (show cc1_scratch4 ≠ cc1_scratch3 by decide), Finset.mem_erase.mpr ⟨ne _ _ (by decide), Finset.mem_erase.mpr ⟨ne _ _ (by decide),
      Finset.mem_erase.mpr ⟨ne _ _ (by decide), mm cc1_scratch4 rfl⟩⟩⟩⟩),
    SparseCore.bigSep_erase' (Finset.mem_erase.mpr ⟨ne _ _ (show cc1_scratch5 ≠ cc1_scratch4 by decide), Finset.mem_erase.mpr ⟨ne _ _ (by decide), Finset.mem_erase.mpr ⟨ne _ _ (by decide),
      Finset.mem_erase.mpr ⟨ne _ _ (by decide), Finset.mem_erase.mpr ⟨ne _ _ (by decide), mm cc1_scratch5 rfl⟩⟩⟩⟩⟩)]

/-! ## The loop -/

/-- The scores' scratch holds `f`. -/
abbrev s0Pts (f : S16x256.Idx → F .f32) : sProp 𝕄 := (s0M).view.loc (V d (cV L) (jV L)) ↦{fullShare} f
/-- The first result's scratch holds `f`. -/
abbrev s2Pts (f : S256.Idx → BitVec 32) : sProp 𝕄 := (s2M).view.loc (V d (cV L) (jV L)) ↦{fullShare} f
/-- The second result's scratch holds `f`. -/
abbrev s3Pts (f : S256.Idx → BitVec 32) : sProp 𝕄 := (s3M).view.loc (V d (cV L) (jV L)) ↦{fullShare} f
/-- The third result's scratch holds `f`. -/
abbrev s4Pts (f : S256.Idx → F .f32) : sProp 𝕄 := (s4M).view.loc (V d (cV L) (jV L)) ↦{fullShare} f
/-- The fourth result's scratch holds `f`. -/
abbrev s5Pts (f : S256.Idx → F .f32) : sProp 𝕄 := (s5M).view.loc (V d (cV L) (jV L)) ↦{fullShare} f

/-- Before trip `k` the first `16 k` tokens of the four result scratches hold their values. -/
def inv (sv : S16x256.Idx → F .f32) (b : S16.Idx → F .f32) (f2 f3 : S256.Idx → BitVec 32) (f4 f5 : S256.Idx → F .f32)
    (k : Nat) (_ : PUnit) : sProp 𝕄 :=
  iprop(s0Pts d L sv ∗ s2Pts d L (fill k (tI1 sv b) f2) ∗ s3Pts d L (fill k (tI2 sv b) f3)
    ∗ s4Pts d L (fill k (tV1 sv b) f4) ∗ s5Pts d L (fill k (tV2 sv b) f5))

/-- One trip: the sixteen tokens of group `t`. -/
theorem trip (sv : S16x256.Idx → F .f32) (b : S16.Idx → F .f32) (f2 f3 : S256.Idx → BitVec 32) (f4 f5 : S256.Idx → F .f32)
    (v : Fin 15 → F .f32) (v34 : FVec F S1 .f32) (hv : ∀ e : Fin 15, v e = b (ix1 e.castSucc)) (h34 : k1_pay1 v34 = b (ix1 15))
    (t : Fin k1_t1_loop.trips) (x : Unit) :
    (inv d L sv b f2 f3 f4 f5 t.val x : sProp 𝕄)
      ⊢ wp frame (wpE (defs₀ (F := F)) 𝒱₀ (V d (cV L) (jV L)) none) Set.univ
          (k1_t1_body L scM (Memref.isWhole_whole _) bM (Memref.isWhole_whole _) o0M (Memref.isWhole_whole _) o1M (Memref.isWhole_whole _)
            o2M (Memref.isWhole_whole _) o3M (Memref.isWhole_whole _) s0M (Memref.isWhole_whole _) s1M (Memref.isWhole_whole _)
            s2M (Memref.isWhole_whole _) s3M (Memref.isWhole_whole _) s4M (Memref.isWhole_whole _) s5M (Memref.isWhole_whole _)
            cc1_scoped0 cc1_scoped1 cc1_scoped2 cc1_scoped3 cc1_scoped4 cc1_scoped5
            (v 0) (v 1) (v 2) (v 3) (v 4) (v 5) (v 6) (v 7) (v 8) (v 9) (v 10) (v 11) (v 12) (v 13) (v 14) v34 t x)
          fun x' => inv d L sv b f2 f3 f4 f5 (t.val + 1) x' := by
  simp only [k1_t1_body, k1_part1_eq_skeleton, k1_part2_eq_skeleton, k1_part3_eq_skeleton, k1_part4_eq_skeleton, k1_part5_eq_skeleton, k1_part6_eq_skeleton,
    k1_part1_skel, k1_part2_skel, k1_part3_skel, k1_part4_skel, k1_part5_skel, k1_part6_skel]
  unfold inv
  have hld : loaded sv v v34 t = sVec sv b (gr t) := funext fun e => loaded_eq sv b v v34 hv h34 t e
  iintro ⟨Hs0, Hs2, Hs3, Hs4, Hs5⟩
  sl_exec
  sl_step
  isplitl [Hs0]; · iexact Hs0
  isplitl [Hs2]
  · iapply (Entails.of_eq (congrArg (fun c => ((s2M).view.loc (V d (cV L) (jV L)) ↦{fullShare} c : sProp 𝕄))
      (read_writes_fill s2M t (fun t => gI1 (sVec sv b t)) f2 (fill t.val (perTok fun t => gI1 (sVec sv b t)) f2) rfl (k1_off18_inb t)
        (gI1 (loaded sv v v34 t)) (congrArg gI1 hld))))
    iexact Hs2
  isplitl [Hs3]
  · iapply (Entails.of_eq (congrArg (fun c => ((s3M).view.loc (V d (cV L) (jV L)) ↦{fullShare} c : sProp 𝕄))
      (read_writes_fill s3M t (fun t => gI2 (sVec sv b t)) f3 (fill t.val (perTok fun t => gI2 (sVec sv b t)) f3) rfl (k1_off18_inb t)
        (gI2 (loaded sv v v34 t)) (congrArg gI2 hld))))
    iexact Hs3
  isplitl [Hs4]
  · iapply (Entails.of_eq (congrArg (fun c => ((s4M).view.loc (V d (cV L) (jV L)) ↦{fullShare} c : sProp 𝕄))
      (read_writes_fill s4M t (fun t => gV1 (sVec sv b t)) f4 (fill t.val (perTok fun t => gV1 (sVec sv b t)) f4) rfl (k1_off18_inb t)
        (gV1 (loaded sv v v34 t)) (congrArg gV1 hld))))
    iexact Hs4
  · iapply (Entails.of_eq (congrArg (fun c => ((s5M).view.loc (V d (cV L) (jV L)) ↦{fullShare} c : sProp 𝕄))
      (read_writes_fill s5M t (fun t => gV2 (sVec sv b t)) f5 (fill t.val (perTok fun t => gV2 (sVec sv b t)) f5) rfl (k1_off18_inb t)
        (gV2 (loaded sv v v34 t)) (congrArg gV2 hld))))
    iexact Hs5

/-- The bias value of each of the first fifteen experts, as the task extracts it. -/
def biasV (b : FVec F S16 .f32) : Fin 15 → F .f32
  | 0 => k1_pay108 b
  | 1 => k1_pay109 b
  | 2 => k1_pay110 b
  | 3 => k1_pay111 b
  | 4 => k1_pay112 b
  | 5 => k1_pay113 b
  | 6 => k1_pay114 b
  | 7 => k1_pay115 b
  | 8 => k1_pay116 b
  | 9 => k1_pay117 b
  | 10 => k1_pay118 b
  | 11 => k1_pay119 b
  | 12 => k1_pay120 b
  | 13 => k1_pay121 b
  | 14 => k1_pay122 b
  | ⟨n + 15, h⟩ => absurd h (by omega)

/-- The word that the task reads for expert `e` is the expert's bias. -/
theorem biasV_eq (b : FVec F S16 .f32) (e : Fin 15) : biasV b e = b (ix1 e.castSucc) :=
  match e with
  | 0 => bias_0 b
  | 1 => bias_1 b
  | 2 => bias_2 b
  | 3 => bias_3 b
  | 4 => bias_4 b
  | 5 => bias_5 b
  | 6 => bias_6 b
  | 7 => bias_7 b
  | 8 => bias_8 b
  | 9 => bias_9 b
  | 10 => bias_10 b
  | 11 => bias_11 b
  | 12 => bias_12 b
  | 13 => bias_13 b
  | 14 => bias_14 b
  | ⟨n + 15, h⟩ => absurd h (by omega)

/-- What the task copies in is block `wid L` of the scores. -/
theorem read_scRowK (sc : Buf (Elt F) (scLoc d)) : (scRowK L).view.read (Elt F) sc = blkOf sc (wid L) := by
  funext y
  obtain ⟨e, j, rfl⟩ : ∃ (e : Fin 16) (j : Fin 256), y = ix2 e j := ⟨y 0, y 1, eq_ix2 y⟩
  show sc ((scM).view.emb ((Rect.unit (s := S32x16x256) (k1_off1 L) S1x16x256.size (k1_off1_inb L)).emb (Shape.reshapeEquiv _ (ix2 e j)))) = sc (ix3 (wid L) e j)
  congr 1
  refine (congrArg (fun z => (scM).view.emb ((Rect.unit (s := S32x16x256) (k1_off1 L) S1x16x256.size (k1_off1_inb L)).emb z)) (ValueIdx.reshapeEquiv_ix2_1ab (a := 16) (b := 256) _ e j)).trans ?_
  funext a
  apply Fin.ext
  refine (ValueKit.rect_emb_unit_val _ _ _ _ a).trans ?_
  have h := congrFun (k1_off1_eq L)
  match a with
  | 0 => exact congrArg (· + 0) (h 0)
  | 1 => exact (congrArg (· + e.val) (h 1)).trans (Nat.zero_add _)
  | 2 => exact (congrArg (· + j.val) (h 2)).trans (Nat.zero_add _)

omit [FloatOps F] in
/-- The task's token `x` is token `256 w + x` of the whole. -/
theorem perBlk_emb {α : Type} (f : Fin 32 → S256.Idx → α) (i : S8192.Idx) (x : S256.Idx) (h : (i 0).val = k1_off19 L 0 + (x 0).val) :
    perBlk f i = f (wid L) x := by
  rw [k1_off19_eq] at h
  have hx : (x 0).val < 256 := (x 0).isLt
  have h' : (i 0).val = 256 * (wid L).val + (x 0).val := by simp [wid] at h ⊢; omega
  unfold perBlk
  congr 1
  · apply Fin.ext; show (i 0).val / 256 = (wid L).val; omega
  · funext a
    match a with
    | 0 => apply Fin.ext; show (i 0).val % 256 = (x 0).val; omega

omit [FloatOps F] in
/-- A view written whole holds any contents that read through it as what was written. -/
theorem writes_whole_at {sp : Space} {s : Shape} {e : EltTy} (v : View sig .scVector sp s e) (g G : v.ty.Contents (Elt F)) (p : s.Idx → Elt F e)
    (h : ∀ x, v.read (Elt F) G x = p x) : ∀ i ∈ v.set, v.writes (Elt F) g [⟨Rect.whole s, p⟩] i = G i := by
  intro i hi
  obtain ⟨x, rfl⟩ := View.exists_emb_of_mem_set v hi
  have h1 : v.read (Elt F) (v.writes (Elt F) g [⟨Rect.whole s, p⟩]) x = v.read (Elt F) G x :=
    (View.read_writes_cons_hit v g (Rect.whole s) p [] x x (Rect.emb_whole_apply _ x)).trans (h x).symm
  rw [View.read_apply, View.read_apply] at h1
  exact (cast_bijective (congrArg (Elt F) v.elt_eq)).injective h1

/-- Copying out the block's first chosen experts leaves block `wid L` of the first result computed. -/
theorem out_0 (g : Buf (Elt F) (i1Loc d)) (sc : Buf (Elt F) (scLoc d)) (b : Buf (Elt F) (bLoc d)) (p : S256.Idx → BitVec 32)
    (hp : p = tI1 (blkOf sc (wid L)) b) :
    ((o0K L).view.loc (V d (cV L) (jV L)) ↦[(o0K L).view.set]{fullShare} (o0K L).view.writes (Elt F) g [⟨Rect.whole S256, p⟩] : sProp 𝕄)
      = i1Loc d ↦[oSet (wid L)]{fullShare} oI1 sc b := by
  rw [← pts_o0K d L]
  exact pointsTo_congr (writes_whole_at (o0K L).view g (oI1 sc b) p fun x => by
    rw [hp]
    exact perBlk_emb L (fun w => tI1 (blkOf sc w) b) _ x (ValueKit.view_emb_slice_whole_unit_val main_v1_0_scv (k1_off19 L) S256.size (k1_off19_inb L) x 0))

/-- Copying out the block's second chosen experts leaves block `wid L` of the second result computed. -/
theorem out_1 (g : Buf (Elt F) (i2Loc d)) (sc : Buf (Elt F) (scLoc d)) (b : Buf (Elt F) (bLoc d)) (p : S256.Idx → BitVec 32)
    (hp : p = tI2 (blkOf sc (wid L)) b) :
    ((o1K L).view.loc (V d (cV L) (jV L)) ↦[(o1K L).view.set]{fullShare} (o1K L).view.writes (Elt F) g [⟨Rect.whole S256, p⟩] : sProp 𝕄)
      = i2Loc d ↦[oSet (wid L)]{fullShare} oI2 sc b := by
  rw [← pts_o1K d L]
  exact pointsTo_congr (writes_whole_at (o1K L).view g (oI2 sc b) p fun x => by
    rw [hp]
    exact perBlk_emb L (fun w => tI2 (blkOf sc w) b) _ x (ValueKit.view_emb_slice_whole_unit_val main_v1_1_scv (k1_off19 L) S256.size (k1_off19_inb L) x 0))

/-- Copying out the block's largest probabilities leaves block `wid L` of the third result computed. -/
theorem out_2 (g : Buf (Elt F) (v1Loc d)) (sc : Buf (Elt F) (scLoc d)) (b : Buf (Elt F) (bLoc d)) (p : S256.Idx → F .f32)
    (hp : p = tV1 (blkOf sc (wid L)) b) :
    ((o2K L).view.loc (V d (cV L) (jV L)) ↦[(o2K L).view.set]{fullShare} (o2K L).view.writes (Elt F) g [⟨Rect.whole S256, p⟩] : sProp 𝕄)
      = v1Loc d ↦[oSet (wid L)]{fullShare} oV1 sc b := by
  rw [← pts_o2K d L]
  exact pointsTo_congr (writes_whole_at (o2K L).view g (oV1 sc b) p fun x => by
    rw [hp]
    exact perBlk_emb L (fun w => tV1 (blkOf sc w) b) _ x (ValueKit.view_emb_slice_whole_unit_val main_v1_2_scv (k1_off19 L) S256.size (k1_off19_inb L) x 0))

/-- Copying out the block's second largest probabilities leaves block `wid L` of the fourth result computed. -/
theorem out_3 (g : Buf (Elt F) (v2Loc d)) (sc : Buf (Elt F) (scLoc d)) (b : Buf (Elt F) (bLoc d)) (p : S256.Idx → F .f32)
    (hp : p = tV2 (blkOf sc (wid L)) b) :
    ((o3K L).view.loc (V d (cV L) (jV L)) ↦[(o3K L).view.set]{fullShare} (o3K L).view.writes (Elt F) g [⟨Rect.whole S256, p⟩] : sProp 𝕄)
      = v2Loc d ↦[oSet (wid L)]{fullShare} oV2 sc b := by
  rw [← pts_o3K d L]
  exact pointsTo_congr (writes_whole_at (o3K L).view g (oV2 sc b) p fun x => by
    rw [hp]
    exact perBlk_emb L (fun w => tV2 (blkOf sc w) b) _ x (ValueKit.view_emb_slice_whole_unit_val main_v1_3_scv (k1_off19 L) S256.size (k1_off19_inb L) x 0))

/-- A copy into the whole scores' scratch leaves what was copied. -/
theorem write_s0 (f p : S16x256.Idx → F .f32) : (s0M).view.write (Elt F) f p Finset.univ = p := View.write_whole_univ _ _ _

/-- The load of the whole bias scratch reads its contents. -/
theorem readAt_bias (b : S16.Idx → F .f32) : (s1M).view.readAt (Elt F) (Rect.unit (s := S16) ![0] S16.size inb_S16_S16_0).toLoadRect b = b := by
  funext l
  show b _ = b l
  congr 1
  funext a
  apply Fin.ext
  match a with
  | 0 => show 0 + 1 * (l 0).val = (l 0).val; omega

/-- The load of the bias scratch after a copy into it reads what was copied. -/
theorem readAt_bias' (f p : S16.Idx → F .f32) :
    (s1M).view.readAt (Elt F) (Rect.unit (s := S16) ![0] S16.size inb_S16_S16_0).toLoadRect ((s1M).view.write (Elt F) f p Finset.univ) = p :=
  (congrArg _ (View.write_whole_univ _ _ _)).trans (readAt_bias p)

set_option maxHeartbeats 1000000 in
/-- One task's whole run: it ends with its blocks of the four results computed, and all else as it was. -/
theorem tile_body (hF : (K (F := F)).Facts) (q : PosShare TreeShare) (sc : Buf (Elt F) (scLoc d)) (b : Buf (Elt F) (bLoc d))
    (g0 : Buf (Elt F) (i1Loc d)) (g1 : Buf (Elt F) (i2Loc d)) (g2 : Buf (Elt F) (v1Loc d)) (g3 : Buf (Elt F) (v2Loc d))
    (O : CellTallies nD τ sig (HIx 1)) (W : Waits sig (HIx 1)) (hO : ∀ g, O g none = 0) :
    iprop(levAts (K (F := F)).L (K (F := F)).lev ∗ emp
        ∗ tileHeld d (wid L) q sc b g0 g1 g2 g3
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__router_body L scM (Memref.isWhole_whole _) bM (Memref.isWhole_whole _) o0M (Memref.isWhole_whole _) o1M (Memref.isWhole_whole _)
            o2M (Memref.isWhole_whole _) o3M (Memref.isWhole_whole _) s0M (Memref.isWhole_whole _) s1M (Memref.isWhole_whole _)
            s2M (Memref.isWhole_whole _) s3M (Memref.isWhole_whole _) s4M (Memref.isWhole_whole _) s5M (Memref.isWhole_whole _)
            cc1_scoped0 cc1_scoped1 cc1_scoped2 cc1_scoped3 cc1_scoped4 cc1_scoped5)
          fun _ => iprop(tileHeld d (wid L) q sc b (oI1 sc b) (oI2 sc b) (oV1 sc b) (oV2 sc b)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  simp only [cc1__router_body_eq_skeleton]; unfold cc1__router_body_skel
  simp only [k1_part7_eq_skeleton]; unfold k1_part7_skel
  unfold tileHeld
  iintro ⟨#Hlv, -, ⟨Hsc, Hb, Ho0, Ho1, Ho2, Ho3⟩, ⟨⟨%f0, Hs0⟩, ⟨%f1, Hs1⟩, ⟨%f2, Hs2⟩, ⟨%f3, Hs3⟩, ⟨%f4, Hs4⟩, ⟨%f5, Hs5⟩, Hbufs⟩,
    ⟨Hm0, Hm1, Hm2, Hm3, Hm4, Hm5, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hsc := (Entails.of_eq (pts_scRowK (F := F) d L _).symm) $$ Hsc
  ihave Hb := (Entails.of_eq (pts_b (F := F) d L _ _).symm) $$ Hb
  ihave Ho0 := (Entails.of_eq (pts_o0K (F := F) d L _).symm) $$ Ho0
  ihave Ho1 := (Entails.of_eq (pts_o1K (F := F) d L _).symm) $$ Ho1
  ihave Ho2 := (Entails.of_eq (pts_o2K (F := F) d L _).symm) $$ Ho2
  ihave Ho3 := (Entails.of_eq (pts_o3K (F := F) d L _).symm) $$ Ho3
  ihave Hs0 := (Entails.of_eq (show ((V d (cV L) (jV L)).loc cc1_scratch0 ↦{fullShare} f0 : sProp 𝕄) = (s0M).view.loc (V d (cV L) (jV L)) ↦{fullShare} f0 from rfl)) $$ Hs0
  ihave Hs1 := (Entails.of_eq (show ((V d (cV L) (jV L)).loc cc1_scratch1 ↦{fullShare} f1 : sProp 𝕄) = (s1M).view.loc (V d (cV L) (jV L)) ↦{fullShare} f1 from rfl)) $$ Hs1
  ihave Hs2 := (Entails.of_eq (show ((V d (cV L) (jV L)).loc cc1_scratch2 ↦{fullShare} f2 : sProp 𝕄) = (s2M).view.loc (V d (cV L) (jV L)) ↦{fullShare} f2 from rfl)) $$ Hs2
  ihave Hs3 := (Entails.of_eq (show ((V d (cV L) (jV L)).loc cc1_scratch3 ↦{fullShare} f3 : sProp 𝕄) = (s3M).view.loc (V d (cV L) (jV L)) ↦{fullShare} f3 from rfl)) $$ Hs3
  ihave Hs4 := (Entails.of_eq (show ((V d (cV L) (jV L)).loc cc1_scratch4 ↦{fullShare} f4 : sProp 𝕄) = (s4M).view.loc (V d (cV L) (jV L)) ↦{fullShare} f4 from rfl)) $$ Hs4
  ihave Hs5 := (Entails.of_eq (show ((V d (cV L) (jV L)).loc cc1_scratch5 ↦{fullShare} f5 : sProp 𝕄) = (s5M).view.loc (V d (cV L) (jV L)) ↦{fullShare} f5 from rfl)) $$ Hs5
  sl_exec (disch := first | exact View.amount_pos _ _ (show 0 < S16x256.numel by decide) | exact View.amount_pos _ _ (show 0 < S16.numel by decide) | exact View.amount_pos _ _ (show 0 < S256.numel by decide))
  rw [readAt_bias']
  rw [show tile_body.sl.dma0_1 d b = b from rfl]
  rw [write_s0]
  rw [show tile_body.sl.dma0 d L sc = blkOf sc (wid L) from read_scRowK d L sc]
  sl_for (inv d L (blkOf sc (wid L)) b f2 f3 f4 f5) $$ [Hs0 Hs2 Hs3 Hs4 Hs5]
  case region =>
    intro k x
    have ht := trip d L (blkOf sc (wid L)) b f2 f3 f4 f5 (biasV b) (k1_pay123 b) (fun e => biasV_eq b e) (bias_15 b) k x
    unfold tile_body.sl.prog.body_1
    dsimp only
    simp only [biasV] at ht
    exact ht
  · unfold inv
    simp only [fill_zero]
    isplitl [Hs0]; · iexact Hs0
    isplitl [Hs2]; · iexact Hs2
    isplitl [Hs3]; · iexact Hs3
    isplitl [Hs4]; · iexact Hs4
    iexact Hs5
  iintro %_ HI
  unfold inv
  icases HI with ⟨Hs0, Hs2, Hs3, Hs4, Hs5⟩
  sl_exec (disch := first | exact View.amount_pos _ _ (show 0 < S16x256.numel by decide) | exact View.amount_pos _ _ (show 0 < S16.numel by decide) | exact View.amount_pos _ _ (show 0 < S256.numel by decide))
  sl_step
  isplitl [Hsc Hb Ho0 Ho1 Ho2 Ho3]
  · isplitl [Hsc]; · iapply (Entails.of_eq (pts_scRowK (F := F) d L _)); iexact Hsc
    isplitl [Hb]; · iapply (Entails.of_eq (pts_b (F := F) d L _ _)); iexact Hb
    isplitl [Ho0]
    · iapply (Entails.of_eq (out_0 d L g0 sc b (tile_body.sl.dma0_2 d L sc b f2) (fill_sixteen _ _))); iexact Ho0
    isplitl [Ho1]
    · iapply (Entails.of_eq (out_1 d L g1 sc b (tile_body.sl.dma0_3 d L sc b f3) (fill_sixteen _ _))); iexact Ho1
    isplitl [Ho2]
    · iapply (Entails.of_eq (out_2 d L g2 sc b (tile_body.sl.dma0_4 d L sc b f4) (fill_sixteen _ _))); iexact Ho2
    · iapply (Entails.of_eq (out_3 d L g3 sc b (tile_body.sl.dma0_5 d L sc b f5) (fill_sixteen _ _))); iexact Ho3
  isplitl [Hs0 Hs1 Hs2 Hs3 Hs4 Hs5 Hbufs]
  · isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    isplitl [Hs5]; · iexists _; iexact Hs5
    iexact Hbufs
  isplitl [Hm0 Hm1 Hm2 Hm3 Hm4 Hm5 Hsems]
  · isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    iexact Hsems
  iexists _; isplitr
  swap; · iexact HO
  ipureintro; intro p _
  rcases p.2 with _ | q
  · exact .inr (.inl rfl)
  · exact .inr (.inr (congrArg some (Subsingleton.elim q 0)))

end Tile

end Cert.Proof.Router
-- ==== Proof.Tasks.lean ====
/-
  What the launch hands each of the thirty-two vector subcores and gets back from it: a row of the scores, a share of the
  bias, and a block of each of the four result arrays. The arrays held whole are those parts, one per subcore.
-/
module

public import proofs.«01_k».proof.Proof.Region
public import proofs.«01_k».proof.Proof.Router

@[expose] public section

set_option maxRecDepth 16384

noncomputable section

namespace Cert.Proof.Router

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

local notation "scM" => (Memref.whole Cert.KernelIdeal.main_v0_scv : Memref Cert.KernelIdeal.sig Kind.scVector Space.hbm Cert.KernelIdeal.S32x16x256 EltTy.f32)
local notation "bM" => (Memref.whole Cert.KernelIdeal.main_arg2_scv : Memref Cert.KernelIdeal.sig Kind.scVector Space.hbm Cert.KernelIdeal.S16 EltTy.f32)
local notation "o0M" => (Memref.whole Cert.KernelIdeal.main_v1_0_scv : Memref Cert.KernelIdeal.sig Kind.scVector Space.hbm Cert.KernelIdeal.S8192 EltTy.i32)
local notation "o1M" => (Memref.whole Cert.KernelIdeal.main_v1_1_scv : Memref Cert.KernelIdeal.sig Kind.scVector Space.hbm Cert.KernelIdeal.S8192 EltTy.i32)
local notation "o2M" => (Memref.whole Cert.KernelIdeal.main_v1_2_scv : Memref Cert.KernelIdeal.sig Kind.scVector Space.hbm Cert.KernelIdeal.S8192 EltTy.f32)
local notation "o3M" => (Memref.whole Cert.KernelIdeal.main_v1_3_scv : Memref Cert.KernelIdeal.sig Kind.scVector Space.hbm Cert.KernelIdeal.S8192 EltTy.f32)
local notation "s0M" => (Memref.whole Cert.KernelIdeal.cc1_scratch0 : Memref Cert.KernelIdeal.sig Kind.scVector Space.vmem Cert.KernelIdeal.S16x256 EltTy.f32)
local notation "s1M" => (Memref.whole Cert.KernelIdeal.cc1_scratch1 : Memref Cert.KernelIdeal.sig Kind.scVector Space.vmem Cert.KernelIdeal.S16 EltTy.f32)
local notation "s2M" => (Memref.whole Cert.KernelIdeal.cc1_scratch2 : Memref Cert.KernelIdeal.sig Kind.scVector Space.vmem Cert.KernelIdeal.S256 EltTy.i32)
local notation "s3M" => (Memref.whole Cert.KernelIdeal.cc1_scratch3 : Memref Cert.KernelIdeal.sig Kind.scVector Space.vmem Cert.KernelIdeal.S256 EltTy.i32)
local notation "s4M" => (Memref.whole Cert.KernelIdeal.cc1_scratch4 : Memref Cert.KernelIdeal.sig Kind.scVector Space.vmem Cert.KernelIdeal.S256 EltTy.f32)
local notation "s5M" => (Memref.whole Cert.KernelIdeal.cc1_scratch5 : Memref Cert.KernelIdeal.sig Kind.scVector Space.vmem Cert.KernelIdeal.S256 EltTy.f32)

section Tasks

variable (m : (ℓ : Loc nD τ sig) → Buf (Elt F) ℓ)

/-! ## What a call's signals carry -/

/-- The number of the task on subcore `i` of SparseCore `c`. -/
def wOf (c : Fin 2) (i : Fin 16) : Fin 32 := ⟨2 * i.val + c.val, by omega⟩

/-- The tasks' numbers, as pairs of a SparseCore and a subcore. -/
def wEquiv : Fin 2 × Fin 16 ≃ Fin 32 where
  toFun p := wOf p.1 p.2
  invFun w := (⟨w.val % 2, by omega⟩, ⟨w.val / 2, by omega⟩)
  left_inv p := by
    obtain ⟨c, i⟩ := p
    refine Prod.ext (Fin.ext ?_) (Fin.ext ?_) <;> simp only [wOf] <;> omega
  right_inv w := by
    apply Fin.ext; simp only [wOf]; omega

/-- What task `w` starts from: the scores as the gating kernel left them, and the four results as launched. -/
def goW (d : Dev nD) (w : Fin 32) : sProp 𝕄 :=
  tileHeld d w (Transfers.shareTok fullShare 32 w) (scoresAt m d) (m (bLoc d)) (m (i1Loc d)) (m (i2Loc d)) (m (v1Loc d)) (m (v2Loc d))

/-- What task `w` ends with: the same, the four results computed. -/
def tdW (d : Dev nD) (w : Fin 32) : sProp 𝕄 :=
  tileHeld d w (Transfers.shareTok fullShare 32 w) (scoresAt m d) (m (bLoc d)) (oI1 (scoresAt m d) (m (bLoc d))) (oI2 (scoresAt m d) (m (bLoc d)))
    (oV1 (scoresAt m d) (m (bLoc d))) (oV2 (scoresAt m d) (m (bLoc d)))

/-- What a task starts from can be handed over by a signal. -/
instance goW_storable (d : Dev nD) (w : Fin 32) : BI.Storable (upEmb : UEmb _ 𝕄) (goW m d w) := by unfold goW tileHeld; infer_instance
/-- What a task ends with can be handed over by a signal. -/
instance tdW_storable (d : Dev nD) (w : Fin 32) : BI.Storable (upEmb : UEmb _ 𝕄) (tdW m d w) := by unfold tdW tileHeld; infer_instance

/-- The call's payloads: a SparseCore's are its sixteen tasks' together. -/
def P : (K (F := F)).Pay (nD := nD) (Val := Elt F) (Name := ℕ) (U := UU) where
  st q d c := match q with | 0 => bigSep Finset.univ fun i : Fin 16 => goW m d (wOf (Fin.cast nCore_zero c) i)
  dn q d c := match q with | 0 => bigSep Finset.univ fun i : Fin 16 => tdW m d (wOf (Fin.cast nCore_zero c) i)
  go q d c i := match q with | 0 => goW m d (wOf (Fin.cast nCore_zero c) (Fin.cast nSub_zero i))
  td q d c i := match q with | 0 => tdW m d (wOf (Fin.cast nCore_zero c) (Fin.cast nSub_zero i))
  x _ _ := iprop(emp)

/-- All of the call's payloads can be handed over by signals. -/
instance P_storable : (P (F := F) m).IsStorable where
  st q d c := match q with
    | 0 => (inferInstance : BI.Storable (upEmb : UEmb _ 𝕄) (bigSep Finset.univ fun i : Fin 16 => goW m d (wOf (Fin.cast nCore_zero c) i)))
  dn q d c := match q with
    | 0 => (inferInstance : BI.Storable (upEmb : UEmb _ 𝕄) (bigSep Finset.univ fun i : Fin 16 => tdW m d (wOf (Fin.cast nCore_zero c) i)))
  go q d c i := match q with
    | 0 => goW_storable m d (wOf (Fin.cast nCore_zero c) (Fin.cast nSub_zero i))
  td q d c i := match q with
    | 0 => tdW_storable m d (wOf (Fin.cast nCore_zero c) (Fin.cast nSub_zero i))

/-! ## Each task's obligation -/

/-- A task's coordinates. -/
def coordsV (c : Fin (grid1.bound 0)) (s : Fin (grid1.bound 1)) : grid1.Coords :=
  fun | 0 => c | 1 => s | ⟨_ + 2, h⟩ => absurd h (Nat.not_lt.2 (Nat.le_add_left _ _))

/-- A subcore of the kernel's mesh runs the router's body at its own coordinates. -/
theorem defs₀_vector (c : Fin τ.nSC) (s : Fin τ.nSub) :
    defs₀ (F := F) (.scVector c s) 1 ()
      = SparseCore.onTile hcore1 hsub1 (fun c s => cc1__router_body (coordsV c s)
          scM (Memref.isWhole_whole _) bM (Memref.isWhole_whole _) o0M (Memref.isWhole_whole _) o1M (Memref.isWhole_whole _)
          o2M (Memref.isWhole_whole _) o3M (Memref.isWhole_whole _) s0M (Memref.isWhole_whole _) s1M (Memref.isWhole_whole _)
          s2M (Memref.isWhole_whole _) s3M (Memref.isWhole_whole _) s4M (Memref.isWhole_whole _) s5M (Memref.isWhole_whole _)
          cc1_scoped0 cc1_scoped1 cc1_scoped2 cc1_scoped3 cc1_scoped4 cc1_scoped5) ⟨⟩ c s := rfl

/-- Every task runs from what it starts from to what it ends with. -/
theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact tile_body d (coordsV ⟨_, hc.1⟩ ⟨_, hc.2⟩) hF (Transfers.shareTok fullShare 32 (wOf (Fin.cast nCore_zero c) (Fin.cast nSub_zero i)))
    (scoresAt m d) (m (bLoc d)) (m (i1Loc d)) (m (i2Loc d)) (m (v1Loc d)) (m (v2Loc d)) O W hO

/-! ## The arrays and the tasks' parts -/

/-- A conjunction over a SparseCore's tasks is one over sixteen. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A conjunction over the SparseCores is one over two. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit [FloatOps F] in
/-- Over all the tasks, by number or by SparseCore and subcore. -/
theorem bigSep_wOf (Φ : Fin 32 → sProp 𝕄) :
    bigSep Finset.univ Φ = bigSep Finset.univ fun c : Fin 2 => bigSep Finset.univ fun i : Fin 16 => Φ (wOf c i) := by
  rw [bigSep_univ_equiv wEquiv Φ, bigSep_univ_prod]; rfl

/-- A SparseCore's payload is its sixteen tasks' parts, on the way in and on the way out. -/
theorem vecSplit : (K (F := F)).VecSplit' (P m) 0 := by
  intro d c
  show iprop(bigSep Finset.univ fun i : Fin 16 => goW m d (wOf (Fin.cast nCore_zero c) i)) ⊢ |={Set.univ}=> iprop(
      (bigSep Finset.univ fun i : Fin ((K (F := F)).nSub 0) => goW m d (wOf (Fin.cast nCore_zero c) (Fin.cast nSub_zero i)))
      ∗ ((bigSep Finset.univ fun i : Fin ((K (F := F)).nSub 0) => tdW m d (wOf (Fin.cast nCore_zero c) (Fin.cast nSub_zero i)))
          -∗ iprop(bigSep Finset.univ fun i : Fin 16 => tdW m d (wOf (Fin.cast nCore_zero c) i))))
  rw [bigSep_tasks (F := F) (fun i => goW m d (wOf (Fin.cast nCore_zero c) i)), bigSep_tasks (F := F) (fun i => tdW m d (wOf (Fin.cast nCore_zero c) i))]
  iintro H; imodintro
  isplitl [H]; · iexact H
  iintro H; iexact H

/-- Two tasks' rows of the scores share no element. -/
theorem sc_disj : ∀ w w' : Fin 32, w ≠ w' → ∀ i, i ∈ scSet w → i ∉ scSet w' := by
  intro w w' h i hi hi'
  simp only [scSet, Finset.mem_filter] at hi hi'
  exact h (Fin.ext (hi.2.symm.trans hi'.2))
/-- Every element of the scores lies in a task's row. -/
theorem sc_cover : ∀ i : S32x16x256.Idx, ∃ w, i ∈ scSet w := fun i =>
  ⟨⟨(i 0).val, (i 0).isLt⟩, by simp [scSet]⟩
/-- Two tasks' blocks of a result share no token. -/
theorem o_disj : ∀ w w' : Fin 32, w ≠ w' → ∀ i, i ∈ oSet w → i ∉ oSet w' := by
  intro w w' h i hi hi'
  simp only [oSet, Finset.mem_filter] at hi hi'
  exact h (Fin.ext (hi.2.symm.trans hi'.2))
/-- Every token of a result lies in a task's block. -/
theorem o_cover : ∀ i : S8192.Idx, ∃ w, i ∈ oSet w := fun i =>
  ⟨⟨(i 0).val / 256, by have h : (i 0).val < 8192 := (i 0).isLt; omega⟩, by simp [oSet]⟩

variable (d : Dev nD) (sc : Buf (Elt F) (scLoc d)) (b : Buf (Elt F) (bLoc d))
    (g0 : Buf (Elt F) (i1Loc d)) (g1 : Buf (Elt F) (i2Loc d)) (g2 : Buf (Elt F) (v1Loc d)) (g3 : Buf (Elt F) (v2Loc d))

/-- The six arrays held whole are every task's part, and what is left of the bias. -/
theorem tasks_split :
    iprop((scLoc d ↦{fullShare} sc) ∗ (bLoc d ↦{fullShare} b) ∗ (i1Loc d ↦{fullShare} g0) ∗ (i2Loc d ↦{fullShare} g1)
        ∗ (v1Loc d ↦{fullShare} g2) ∗ (v2Loc d ↦{fullShare} g3))
      ⊢ (iprop((bLoc d ↦{Transfers.shareDrop fullShare 32} b)
          ∗ bigSep Finset.univ fun w : Fin 32 => tileHeld d w (Transfers.shareTok fullShare 32 w) sc b g0 g1 g2 g3) : sProp 𝕄) := by
  unfold tileHeld
  rw [bigSep_sep', bigSep_sep', bigSep_sep', bigSep_sep', bigSep_sep']
  iintro ⟨Hs, Hb, H0, H1, H2, H3⟩
  ihave Hb := (Transfers.pointsTo_toks_split fullShare 32) $$ Hb
  icases Hb with ⟨Hbd, Hb⟩
  isplitl [Hbd]; · iexact Hbd
  isplitl [Hs]; · iapply (split_parts (F := F) (ℓ := scLoc d) (B := Fin 32) scSet sc_disj sc_cover sc); iexact Hs
  isplitl [Hb]; · iexact Hb
  isplitl [H0]; · iapply (split_parts (F := F) (ℓ := i1Loc d) (B := Fin 32) oSet o_disj o_cover g0); iexact H0
  isplitl [H1]; · iapply (split_parts (F := F) (ℓ := i2Loc d) (B := Fin 32) oSet o_disj o_cover g1); iexact H1
  isplitl [H2]; · iapply (split_parts (F := F) (ℓ := v1Loc d) (B := Fin 32) oSet o_disj o_cover g2); iexact H2
  iapply (split_parts (F := F) (ℓ := v2Loc d) (B := Fin 32) oSet o_disj o_cover g3); iexact H3

/-- And back. -/
theorem tasks_join :
    iprop((bLoc d ↦{Transfers.shareDrop fullShare 32} b)
        ∗ bigSep Finset.univ fun w : Fin 32 => tileHeld d w (Transfers.shareTok fullShare 32 w) sc b g0 g1 g2 g3)
      ⊢ (iprop((scLoc d ↦{fullShare} sc) ∗ (bLoc d ↦{fullShare} b) ∗ (i1Loc d ↦{fullShare} g0) ∗ (i2Loc d ↦{fullShare} g1)
        ∗ (v1Loc d ↦{fullShare} g2) ∗ (v2Loc d ↦{fullShare} g3)) : sProp 𝕄) := by
  unfold tileHeld
  rw [bigSep_sep', bigSep_sep', bigSep_sep', bigSep_sep', bigSep_sep']
  iintro ⟨Hbd, Hs, Hb, H0, H1, H2, H3⟩
  isplitl [Hs]; · iapply (join_same (F := F) (ℓ := scLoc d) (B := Fin 32) scSet sc_disj sc_cover sc); iexact Hs
  isplitl [Hbd Hb]
  · iapply (Transfers.pointsTo_toks_join fullShare 32)
    isplitl [Hbd]; · iexact Hbd
    iexact Hb
  isplitl [H0]; · iapply (join_same (F := F) (ℓ := i1Loc d) (B := Fin 32) oSet o_disj o_cover g0); iexact H0
  isplitl [H1]; · iapply (join_same (F := F) (ℓ := i2Loc d) (B := Fin 32) oSet o_disj o_cover g1); iexact H1
  isplitl [H2]; · iapply (join_same (F := F) (ℓ := v1Loc d) (B := Fin 32) oSet o_disj o_cover g2); iexact H2
  iapply (join_same (F := F) (ℓ := v2Loc d) (B := Fin 32) oSet o_disj o_cover g3); iexact H3

end Tasks

end Cert.Proof.Router
-- ==== Proof.Launch.lean ====
/-
  The whole program: on the TensorCore the gating kernel's region, the call of the SparseCore kernel, and the six host
  operations that set the four results side by side. The theorem `run_main` states what every run ends with.
-/
module

public import proofs.«01_k».proof.Proof.Tasks

@[expose] public section

set_option maxRecDepth 16384

noncomputable section

namespace Cert.Proof.Router

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Launch

variable (m : (ℓ : Loc nD τ sig) → Buf (Elt F) ℓ) (ρ : Dev nD → PrngReg)

/-! ## The host operations after the call -/

/-- The operations that set the two indices and the two probabilities of each token side by side. -/
abbrev hostOps : List (HloOp τ sig (Elt F)) :=
  [StableHlo.unary main_v1_0 main_v2 (broadcastInDim S8192x1 ![0] bcast_S8192_S8192x1_0 : (⟨S8192, .i32⟩ : BufTy).Contents (Elt F) → (⟨S8192x1, .i32⟩ : BufTy).Contents (Elt F)),
    StableHlo.unary main_v1_1 main_v3 (broadcastInDim S8192x1 ![0] bcast_S8192_S8192x1_0 : (⟨S8192, .i32⟩ : BufTy).Contents (Elt F) → (⟨S8192x1, .i32⟩ : BufTy).Contents (Elt F)),
    StableHlo.binary main_v2 main_v3 main_v4 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.unary main_v1_2 main_v5 (broadcastInDim S8192x1 ![0] bcast_S8192_S8192x1_0 : (⟨S8192, .f32⟩ : BufTy).Contents (Elt F) → (⟨S8192x1, .f32⟩ : BufTy).Contents (Elt F)),
    StableHlo.unary main_v1_3 main_v6 (broadcastInDim S8192x1 ![0] bcast_S8192_S8192x1_0 : (⟨S8192, .f32⟩ : BufTy).Contents (Elt F) → (⟨S8192x1, .f32⟩ : BufTy).Contents (Elt F)),
    StableHlo.binary main_v5 main_v6 main_v7 ((fun a b => concatenate S8192x2 1 [⟨S8192x1, a⟩, ⟨S8192x1, b⟩] concatenates_S8192x1_S8192x1_S8192x2_d1) : (⟨S8192x1, .f32⟩ : BufTy).Contents (Elt F) → (⟨S8192x1, .f32⟩ : BufTy).Contents (Elt F) → (⟨S8192x2, .f32⟩ : BufTy).Contents (Elt F))]

/-- The program is the region, the call and those operations. -/
theorem main_eq (d : Dev nD) :
    main (F := F) d = (Prog.lift (.customCall (SparseCore.inner (Pipeline.entry 0)) ()) >>= fun _ =>
      (sc (F := F)).run d 0 >>= fun _ => StableHlo.seq hostOps >>= fun _ => pure ⟨⟩) := by
  simp only [StableHlo.seq, hostOps, bind_assoc, pure_bind, main]

/-- The buffers those operations touch. -/
def hostSet : Finset (DevRef τ sig) :=
  {Proc.devRef .tc main_v1_0, Proc.devRef .tc main_v1_1, Proc.devRef .tc main_v1_2, Proc.devRef .tc main_v1_3, Proc.devRef .tc main_v2,
    Proc.devRef .tc main_v3, Proc.devRef .tc main_v4, Proc.devRef .tc main_v5, Proc.devRef .tc main_v6, Proc.devRef .tc main_v7}

/-- Those operations touch those buffers only. -/
theorem hostOps_bufs : ∀ op ∈ hostOps (F := F), op.bufs ⊆ hostSet := by
  intro op h
  simp only [hostOps, List.mem_cons, List.not_mem_nil, or_false] at h
  rcases h with rfl | rfl | rfl | rfl | rfl | rfl
  · exact (by decide : ({Proc.devRef .tc main_v1_0, Proc.devRef .tc main_v2} : Finset (DevRef τ sig)) ⊆ hostSet)
  · exact (by decide : ({Proc.devRef .tc main_v1_1, Proc.devRef .tc main_v3} : Finset (DevRef τ sig)) ⊆ hostSet)
  · exact (by decide : ({Proc.devRef .tc main_v2, Proc.devRef .tc main_v3, Proc.devRef .tc main_v4} : Finset (DevRef τ sig)) ⊆ hostSet)
  · exact (by decide : ({Proc.devRef .tc main_v1_2, Proc.devRef .tc main_v5} : Finset (DevRef τ sig)) ⊆ hostSet)
  · exact (by decide : ({Proc.devRef .tc main_v1_3, Proc.devRef .tc main_v6} : Finset (DevRef τ sig)) ⊆ hostSet)
  · exact (by decide : ({Proc.devRef .tc main_v5, Proc.devRef .tc main_v6, Proc.devRef .tc main_v7} : Finset (DevRef τ sig)) ⊆ hostSet)

/-- The launch memory with the four results of the call in place. -/
def V1 (d : Dev nD) : Valuation τ sig (Elt F) :=
  Function.update (Function.update (Function.update (Function.update (fun b => m (d, b))
    (Proc.devRef .tc main_v1_0) (oI1 (scoresAt m d) (m (bLoc d)))) (Proc.devRef .tc main_v1_1) (oI2 (scoresAt m d) (m (bLoc d))))
    (Proc.devRef .tc main_v1_2) (oV1 (scoresAt m d) (m (bLoc d)))) (Proc.devRef .tc main_v1_3) (oV2 (scoresAt m d) (m (bLoc d)))

/-- The experts chosen: the largest score's and the second largest's side by side. -/
def resI (d : Dev nD) : S8192x2.Idx → BitVec 32 :=
  concatenate S8192x2 1 [⟨S8192x1, broadcastInDim S8192x1 ![0] bcast_S8192_S8192x1_0 (oI1 (scoresAt m d) (m (bLoc d)))⟩,
    ⟨S8192x1, broadcastInDim S8192x1 ![0] bcast_S8192_S8192x1_0 (oI2 (scoresAt m d) (m (bLoc d)))⟩] concatenates_S8192x1_S8192x1_S8192x2_d1

/-- Their probabilities side by side. -/
def resV (d : Dev nD) : S8192x2.Idx → F .f32 :=
  concatenate S8192x2 1 [⟨S8192x1, broadcastInDim S8192x1 ![0] bcast_S8192_S8192x1_0 (oV1 (scoresAt m d) (m (bLoc d)))⟩,
    ⟨S8192x1, broadcastInDim S8192x1 ![0] bcast_S8192_S8192x1_0 (oV2 (scoresAt m d) (m (bLoc d)))⟩] concatenates_S8192x1_S8192x1_S8192x2_d1

/-- The first result of the call is in place. -/
theorem V1_0 (d : Dev nD) : V1 m d (Proc.devRef .tc main_v1_0) = oI1 (scoresAt m d) (m (bLoc d)) := by
  unfold V1
  rw [Function.update_of_ne (by decide), Function.update_of_ne (by decide), Function.update_of_ne (by decide), Function.update_self]
/-- The second result of the call is in place. -/
theorem V1_1 (d : Dev nD) : V1 m d (Proc.devRef .tc main_v1_1) = oI2 (scoresAt m d) (m (bLoc d)) := by
  unfold V1
  rw [Function.update_of_ne (by decide), Function.update_of_ne (by decide), Function.update_self]
/-- The third result of the call is in place. -/
theorem V1_2 (d : Dev nD) : V1 m d (Proc.devRef .tc main_v1_2) = oV1 (scoresAt m d) (m (bLoc d)) := by
  unfold V1
  rw [Function.update_of_ne (by decide), Function.update_self]
/-- The fourth result of the call is in place. -/
theorem V1_3 (d : Dev nD) : V1 m d (Proc.devRef .tc main_v1_3) = oV2 (scoresAt m d) (m (bLoc d)) := by
  unfold V1
  rw [Function.update_self]
/-- Every other buffer is as launched. -/
theorem V1_rest (d : Dev nD) (b : DevRef τ sig) (h0 : b ≠ Proc.devRef .tc main_v1_0) (h1 : b ≠ Proc.devRef .tc main_v1_1)
    (h2 : b ≠ Proc.devRef .tc main_v1_2) (h3 : b ≠ Proc.devRef .tc main_v1_3) : V1 m d b = m (d, b) := by
  unfold V1
  rw [Function.update_of_ne h3, Function.update_of_ne h2, Function.update_of_ne h1, Function.update_of_ne h0]

/-- After the operations the program's first result holds the experts side by side. -/
theorem after_v4 (d : Dev nD) : StableHlo.after (hostOps (F := F)) (V1 m d) (Proc.devRef .tc main_v4) = resI m d := by
  simp only [hostOps, StableHlo.after_cons, StableHlo.after_nil]
  rw [StableHlo.binary_result_ne (r := main_v4) (h := by decide), StableHlo.unary_result_ne (r := main_v4) (h := by decide),
    StableHlo.unary_result_ne (r := main_v4) (h := by decide),
    StableHlo.binary_result, StableHlo.unary_result_ne (r := main_v2) (h := by decide), StableHlo.unary_result, StableHlo.unary_result,
    StableHlo.unary_result_ne (r := main_v1_1) (h := by decide), V1_0, V1_1]
  rfl

/-- After the operations the program's second result holds their probabilities side by side. -/
theorem after_v7 (d : Dev nD) : StableHlo.after (hostOps (F := F)) (V1 m d) (Proc.devRef .tc main_v7) = resV m d := by
  simp only [hostOps, StableHlo.after_cons, StableHlo.after_nil]
  rw [StableHlo.binary_result, StableHlo.unary_result_ne (r := main_v5) (h := by decide), StableHlo.unary_result, StableHlo.unary_result,
    StableHlo.unary_result_ne (r := main_v1_3) (h := by decide),
    StableHlo.binary_result_ne (r := main_v1_3) (h := by decide), StableHlo.binary_result_ne (r := main_v1_2) (h := by decide),
    StableHlo.unary_result_ne (r := main_v1_3) (h := by decide), StableHlo.unary_result_ne (r := main_v1_2) (h := by decide),
    StableHlo.unary_result_ne (r := main_v1_3) (h := by decide), StableHlo.unary_result_ne (r := main_v1_2) (h := by decide), V1_2, V1_3]
  rfl

/-- Those buffers' contents, one by one. -/
theorem held_eq (d : Dev nD) (V : Valuation τ sig (Elt F)) :
    (StableHlo.held (tt d) hostSet V : sProp 𝕄)
      = iprop((i1Loc d ↦{fullShare} V (Proc.devRef .tc main_v1_0)) ∗ (i2Loc d ↦{fullShare} V (Proc.devRef .tc main_v1_1))
        ∗ (v1Loc d ↦{fullShare} V (Proc.devRef .tc main_v1_2)) ∗ (v2Loc d ↦{fullShare} V (Proc.devRef .tc main_v1_3))
        ∗ ((tt d).loc main_v2 ↦{fullShare} V (Proc.devRef .tc main_v2)) ∗ ((tt d).loc main_v3 ↦{fullShare} V (Proc.devRef .tc main_v3))
        ∗ ((tt d).loc main_v4 ↦{fullShare} V (Proc.devRef .tc main_v4)) ∗ ((tt d).loc main_v5 ↦{fullShare} V (Proc.devRef .tc main_v5))
        ∗ ((tt d).loc main_v6 ↦{fullShare} V (Proc.devRef .tc main_v6)) ∗ ((tt d).loc main_v7 ↦{fullShare} V (Proc.devRef .tc main_v7))) := by
  unfold StableHlo.held hostSet
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The program's arrays on the device, one by one. -/
theorem unscopedBufs_eq (d : Dev nD) (W : (b : Ref sig .tc) → Buf (Elt F) ((tt d).loc b)) :
    (unscopedBufs d W : sProp 𝕄) = iprop((xLoc d ↦{fullShare} W main_arg0) ∗ (wLoc d ↦{fullShare} W main_arg1) ∗ (bLoc d ↦{fullShare} W main_arg2)
      ∗ (scLoc d ↦{fullShare} W main_v0) ∗ (i1Loc d ↦{fullShare} W main_v1_0) ∗ (i2Loc d ↦{fullShare} W main_v1_1)
      ∗ (v1Loc d ↦{fullShare} W main_v1_2) ∗ (v2Loc d ↦{fullShare} W main_v1_3)
      ∗ ((tt d).loc main_v2 ↦{fullShare} W main_v2) ∗ ((tt d).loc main_v3 ↦{fullShare} W main_v3) ∗ ((tt d).loc main_v4 ↦{fullShare} W main_v4)
      ∗ ((tt d).loc main_v5 ↦{fullShare} W main_v5) ∗ ((tt d).loc main_v6 ↦{fullShare} W main_v6) ∗ ((tt d).loc main_v7 ↦{fullShare} W main_v7)) := by
  unfold unscopedBufs
  rw [show (Finset.univ.filter fun b : Ref sig .tc => ¬ b.isScoped)
      = {main_arg0, main_arg1, main_arg2, main_v0, main_v1_0, main_v1_1, main_v1_2, main_v1_3, main_v2, main_v3, main_v4, main_v5, main_v6, main_v7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-! ## The launch's ghost state -/

/-- The region's semaphores are distinct. -/
theorem pinj : Function.Injective (Pipeline.cellOf (nD := nD) (τ := τ) (Pipeline.pin (pcfgs (F := F)) adm)) := cellOf_inj

/-- The pipelines' part of the launch element. -/
def uP : UR sig nD τ := initOf (Pipeline.cells (Pipeline.pin (pcfgs (F := F)) adm) pinj) (Pipeline.launchToks (Pipeline.pin (pcfgs (F := F)) adm) pinj)

/-- The launch element: the handshakes' part, the pipelines' and no counter. -/
def u₀ : UU := (initOf (K (F := F)).hsCells (K (F := F)).hsToks, (uP (F := F), 1))

/-- What each TensorCore is dealt for its region. -/
def G (d : Dev nD) : sProp 𝕄 :=
  iprop(Pipeline.cellsGhost (Pipeline.pin (pcfgs (F := F)) adm) EP 0 d ∗ Pipeline.toksInit (Pipeline.pin (pcfgs (F := F)) adm) EP 0 d)

/-- The launch element is the handshakes' part and the pipelines'. -/
theorem own_parts : (ownU (u₀ (F := F)) : sProp 𝕄) ⊢ iprop(BI.own (EH (initOf (K (F := F)).hsCells (K (F := F)).hsToks)) ∗ BI.own (EP (uP (F := F)))) := by
  unfold u₀
  iintro Hu
  ihave H := (ownU_pair (initOf (K (F := F)).hsCells (K (F := F)).hsToks) ((uP (F := F), 1) : UR sig nD τ × Counters)) $$ Hu
  icases H with ⟨HH, HP⟩
  ihave H := (own_pair_emb embR (uP (F := F)) (1 : Counters)) $$ HP
  icases H with ⟨HP, -⟩
  isplitl [HH]; · iexact HH
  iexact HP

/-- A conjunction over the one region is its only part. -/
theorem one_pipe (Φ : Fin 1 → Dev nD → sProp 𝕄) :
    (bigSep Finset.univ fun d : Dev nD => bigSep Finset.univ fun p : Fin 1 => Φ p d) = bigSep Finset.univ fun d : Dev nD => Φ 0 d :=
  bigSep_congr fun _ _ => bigSep_univ_of_subsingleton (0 : Fin 1)

/-- From the launch element: the handshakes' part, each TensorCore's part, and nothing for the tasks. -/
theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P m).x q thr) := by
  iintro Hu
  ihave H := own_parts $$ Hu
  icases H with ⟨HH, HP⟩
  imod (show BI.own (EP (uP (F := F))) ⊢ _ from Pipeline.fund_ghost (Pipeline.pin (pcfgs (F := F)) adm) EP pinj) $$ HP with ⟨Hc, Ht⟩
  imodintro
  isplitl [HH]; · iexact HH
  isplitl [Hc Ht]
  · unfold G
    rw [bigSep_sep']
    isplitl [Hc]
    · iapply (BI.BIBase.Entails.of_eq (one_pipe fun p d => (Pipeline.cellsGhost (Pipeline.pin (pcfgs (F := F)) adm) EP p d : sProp 𝕄))); iexact Hc
    · iapply (BI.BIBase.Entails.of_eq (one_pipe fun p d => (Pipeline.toksInit (Pipeline.pin (pcfgs (F := F)) adm) EP p d : sProp 𝕄))); iexact Ht
  · rw [show (bigSep Finset.univ fun thr : Thread nD τ => bigSep Finset.univ fun q : Fin 1 => (P m).x q thr) = (iprop(emp) : sProp 𝕄) from
      (bigSep_congr fun thr _ => bigSep_univ_of_subsingleton (0 : Fin 1)).trans (bigSep_emp_const _)]
    iempintro

/-! ## The TensorCore's program -/

/-- The call of the region, as the launch's program writes it. -/
theorem lift_entry :
    (Prog.lift (.customCall (SparseCore.inner (Pipeline.entry 0)) ()) : Prog (TpuEff nD τ sig (Elt F) (SparseCore.Sig (ΛP (F := F)) 1) .tc) PUnit)
      = SparseCore.liftProg (.op (.customCall (Pipeline.entry 0) ()) .ret : Prog (TpuEff nD τ sig (Elt F) (ΛP (F := F)) .tc) PUnit) := rfl

set_option maxHeartbeats 2000000 in
/-- The gating kernel's call, from the region. -/
theorem region_step (d : Dev nD) [∀ e, Nonempty (Elt F e)] (Q : PUnit → sProp 𝕄) :
    iprop((iprop(boundary (tt d) ∗ (reg m).post d) -∗ Q ⟨⟩) ∗ boundary (tt d) ∗ (reg m).pre d ∗ levAts (K (F := F)).L (K (F := F)).lev ∗ G d)
      ⊢ wp frame (wpE ((K (F := F)).defs (D (F := F))) 𝒱 (tt d) none) Set.univ
          (Prog.lift (.customCall (SparseCore.inner (Pipeline.entry 0)) ())) Q := by
  rw [lift_entry]
  refine BI.BIBase.Entails.trans ?_ ((K (F := F)).wp_liftProg (D (F := F)) 𝒱 (tt d) Set.univ none _ Q)
  refine BI.BIBase.Entails.trans ?_ (Pipeline.RegionSeg.wp pcfgs adm (pdats m) (none : HIx 1) pinj EP defs₀ 𝒱₀ (K (F := F)).L (K (F := F)).lev (reg m) d none
    (fun _ h => nomatch h) .ret Q)
  iintro ⟨Hk, Hb, Hp, Hl, Hg⟩
  unfold G
  icases Hg with ⟨Hg, Ht⟩
  isplitl [Hk]
  · iintro H
    rw [wp_ret]
    imodintro
    iapply Hk; iexact H
  isplitl [Hb]; · iexact Hb
  isplitl [Hp]; · iexact Hp
  isplitl [Hl]; · iexact Hl
  isplitl [Hg]; · iexact Hg
  iexact Ht

/-- What starts the call on all SparseCores is what all 32 tasks start from. -/
theorem st0_eq (d : Dev nD) : (bigSep Finset.univ fun c : Fin ((K (F := F)).nCore 0) => (P m).st 0 d c) = bigSep Finset.univ fun w : Fin 32 => goW m d w :=
  (bigSep_cores (F := F) fun c => bigSep Finset.univ fun i : Fin 16 => goW m d (wOf c i)).trans (bigSep_wOf _).symm
/-- What the call hands back from all SparseCores is what all 32 tasks end with. -/
theorem dn0_eq (d : Dev nD) : (bigSep Finset.univ fun c : Fin ((K (F := F)).nCore 0) => (P m).dn 0 d c) = bigSep Finset.univ fun w : Fin 32 => tdW m d w :=
  (bigSep_cores (F := F) fun c => bigSep Finset.univ fun i : Fin 16 => tdW m d (wOf c i)).trans (bigSep_wOf _).symm

/-- What the program ends with, on each device. -/
def FIN (d : Dev nD) : sProp 𝕄 :=
  iprop((xLoc d ↦{fullShare} m (xLoc d)) ∗ (wLoc d ↦{fullShare} m (wLoc d)) ∗ (bLoc d ↦{fullShare} m (bLoc d))
    ∗ ((tt d).loc main_v4 ↦{fullShare} resI m d) ∗ ((tt d).loc main_v7 ↦{fullShare} resV m d))

/-- The host operations, from the call's results. -/
theorem host_step (d : Dev nD) (Q : PUnit → sProp 𝕄) :
    iprop((boundary (tt d) ∗ (i1Loc d ↦{fullShare} oI1 (scoresAt m d) (m (bLoc d))) ∗ (i2Loc d ↦{fullShare} oI2 (scoresAt m d) (m (bLoc d)))
        ∗ (v1Loc d ↦{fullShare} oV1 (scoresAt m d) (m (bLoc d))) ∗ (v2Loc d ↦{fullShare} oV2 (scoresAt m d) (m (bLoc d)))
        ∗ ((tt d).loc main_v2 ↦{fullShare} m ((tt d).loc main_v2)) ∗ ((tt d).loc main_v3 ↦{fullShare} m ((tt d).loc main_v3))
        ∗ ((tt d).loc main_v4 ↦{fullShare} m ((tt d).loc main_v4)) ∗ ((tt d).loc main_v5 ↦{fullShare} m ((tt d).loc main_v5))
        ∗ ((tt d).loc main_v6 ↦{fullShare} m ((tt d).loc main_v6)) ∗ ((tt d).loc main_v7 ↦{fullShare} m ((tt d).loc main_v7)))
        ∗ (iprop(boundary (tt d) ∗ ((tt d).loc main_v4 ↦{fullShare} resI m d) ∗ ((tt d).loc main_v7 ↦{fullShare} resV m d)) -∗ Q ⟨⟩))
      ⊢ wp frame (wpE ((K (F := F)).defs (D (F := F))) 𝒱 (tt d) none) Set.univ (StableHlo.seq hostOps >>= fun _ => pure ⟨⟩) Q := by
  iintro ⟨⟨Hb, H0, H1, H2, H3, H4, H5, H6, H7, H8, H9⟩, Hk⟩
  iapply (StableHlo.wp_seq (defs := (K (F := F)).defs (D (F := F))) 𝒱 none Set.univ d hostSet (fun _ => pure ⟨⟩) hostOps
    hostOps_bufs (by intro op h; fin_cases h <;> rfl) (V1 m d)) $$ [Hb H0 H1 H2 H3 H4 H5 H6 H7 H8 H9]
  · isplitl [Hb]; · iexact Hb
    iapply (BI.BIBase.Entails.of_eq (held_eq d (V1 m d)).symm)
    rw [V1_0, V1_1, V1_2, V1_3, V1_rest m d _ (by decide) (by decide) (by decide) (by decide), V1_rest m d _ (by decide) (by decide) (by decide) (by decide),
      V1_rest m d _ (by decide) (by decide) (by decide) (by decide), V1_rest m d _ (by decide) (by decide) (by decide) (by decide),
      V1_rest m d _ (by decide) (by decide) (by decide) (by decide), V1_rest m d _ (by decide) (by decide) (by decide) (by decide)]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iintro ⟨Hb, H⟩
  ihave H := (BI.BIBase.Entails.of_eq (held_eq d (StableHlo.after hostOps (V1 m d)))) $$ H
  icases H with ⟨-, -, -, -, -, -, H6, -, -, H9⟩
  rw [wp_pure]
  imodintro
  iapply Hk
  isplitl [Hb]; · iexact Hb
  isplitl [H6]
  · iapply (BI.BIBase.Entails.of_eq (congrArg (fun f => ((tt d).loc main_v4 ↦{fullShare} f : sProp 𝕄)) (after_v4 m d))); iexact H6
  · iapply (BI.BIBase.Entails.of_eq (congrArg (fun f => ((tt d).loc main_v7 ↦{fullShare} f : sProp 𝕄)) (after_v7 m d))); iexact H9

set_option backward.isDefEq.respectTransparency.types false in
/-- The gating kernel's call, from the tokens, the weights and the scores' array with the launch's debts. -/
theorem region_call (d : Dev nD) [∀ e, Nonempty (Elt F e)] (Q : PUnit → sProp 𝕄) :
    iprop((iprop(boundary (tt d) ∗ (xLoc d ↦{fullShare} m (xLoc d)) ∗ (wLoc d ↦{fullShare} m (wLoc d)) ∗ (scLoc d ↦{fullShare} scoresAt m d)
          ∗ ∃ W, ⌜(K (F := F)).WBelow (tt d) W 0⌝ ∗ owes (tt d) ((K (F := F)).Otc d 0) W) -∗ Q ⟨⟩)
        ∗ boundary (tt d)
        ∗ iprop((xLoc d ↦{fullShare} m (xLoc d)) ∗ (wLoc d ↦{fullShare} m (wLoc d)) ∗ (scLoc d ↦{fullShare} m (scLoc d))
          ∗ ∃ W, ⌜(K (F := F)).WBelow (tt d) W 0⌝ ∗ owes (tt d) ((K (F := F)).Otc d 0) W)
        ∗ levAts (K (F := F)).L (K (F := F)).lev ∗ G d)
      ⊢ wp frame (wpE ((K (F := F)).defs (D (F := F))) 𝒱 (tt d) none) Set.univ
          (Prog.lift (.customCall (SparseCore.inner (Pipeline.entry 0)) ())) Q :=
  region_step m d Q

/-- The TensorCore's state before the tiles' call is what it owes, beside the rest. -/
theorem tcSt_open (d : Dev nD) : ∃ R : sProp 𝕄, (K (F := F)).tcSt EH d 0
    = iprop((∃ W, ⌜(K (F := F)).WBelow (tt d) W 0⌝ ∗ owes (tt d) ((K (F := F)).Otc d 0) W) ∗ R) :=
  ⟨_, rfl⟩

/-- The program on one device: the gating kernel, the tiles' kernel, the host's operations. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq, main_eq, wp_bind]
  iintro ⟨#Hctx, Hst, ⟨Hb, ⟨Hx, Hw, Hbi, Hs, H0, H1, H2, H3, H4, H5, H6, H7, H8, H9⟩, Hts, -⟩, HG⟩
  obtain ⟨R, hR⟩ := tcSt_open (F := F) d
  ihave Hst := (BI.BIBase.Entails.of_eq hR) $$ Hst
  icases Hst with ⟨⟨%W, %hW, HO⟩, Hst⟩
  iapply (region_call m d _)
  isplitr [Hb Hx Hw Hs HO HG]
  rotate_left
  · isplitl [Hb]; · iexact Hb
    isplitl [Hx Hw Hs HO]
    · isplitl [Hx]; · iexact Hx
      isplitl [Hw]; · iexact Hw
      isplitl [Hs]; · iexact Hs
      iexists W; isplitr; rotate_left; · iexact HO
      ipureintro; exact hW
    isplitr [HG]; rotate_left; · iexact HG
    iapply (SparseCore.Cfg.ctx_levAts κ); iexact Hctx
  iintro ⟨Hb, Hx, Hw, Hs, HO⟩
  rw [wp_bind]
  iapply ((K (F := F)).wp_run (D (F := F)) 𝒱 (EH := EH) (P := P m) κ d 0)
  isplitr; · iexact Hctx
  ihave Hparts := (tasks_split d (scoresAt m d) (m (bLoc d)) (m (i1Loc d)) (m (i2Loc d)) (m (v1Loc d)) (m (v2Loc d))) $$ [Hs Hbi H0 H1 H2 H3]
  · isplitl [Hs]; · iexact Hs
    isplitl [Hbi]; · iexact Hbi
    isplitl [H0]; · iexact H0
    isplitl [H1]; · iexact H1
    isplitl [H2]; · iexact H2
    iexact H3
  icases Hparts with ⟨Hbd, Hparts⟩
  isplitl [HO Hst]
  · iapply (BI.BIBase.Entails.of_eq hR.symm)
    isplitl [HO]; · iexact HO
    iexact Hst
  isplitl [Hparts]
  · rw [st0_eq]; iexact Hparts
  iintro ⟨Hst, Hdn⟩
  ihave Hdn := (BI.BIBase.Entails.of_eq (dn0_eq m d)) $$ Hdn
  ihave H := (tasks_join d (scoresAt m d) (m (bLoc d)) (oI1 (scoresAt m d) (m (bLoc d))) (oI2 (scoresAt m d) (m (bLoc d)))
    (oV1 (scoresAt m d) (m (bLoc d))) (oV2 (scoresAt m d) (m (bLoc d)))) $$ [Hbd Hdn]
  · isplitl [Hbd]; · iexact Hbd
    iexact Hdn
  icases H with ⟨-, Hbi, H0, H1, H2, H3⟩
  iapply (host_step m d _)
  isplitl [Hb H0 H1 H2 H3 H4 H5 H6 H7 H8 H9]
  · isplitl [Hb]; · iexact Hb
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iintro ⟨Hb, H6, H9⟩
  isplitl [Hst]; · iexact Hst
  isplitr [Hb Hts]
  · unfold FIN
    isplitl [Hx]; · iexact Hx
    isplitl [Hw]; · iexact Hw
    isplitl [Hbi]; · iexact Hbi
    isplitl [H6]; · iexact H6
    iexact H9
  isplitl [Hb] <;> iassumption

/-! ## What a run ends with -/

/-- What the final memory of a device holds: the arguments as launched and the two results. -/
def fq (d : Dev nD) (s' : Phys nD τ sig (Elt F)) : Prop :=
  s'.mem.mem (xLoc d) = m (xLoc d) ∧ s'.mem.mem (wLoc d) = m (wLoc d) ∧ s'.mem.mem (bLoc d) = m (bLoc d)
    ∧ s'.mem.mem ((tt d).loc main_v4) = resI m d ∧ s'.mem.mem ((tt d).loc main_v7) = resV m d

/-- A buffer held whole is as held in any state, which stays to be read again. -/
theorem read_one (s' : Phys nD τ sig (Elt F)) (ℓ : Loc nD τ sig) (f : Buf (Elt F) ℓ) :
    iprop(SI s' ∗ (ℓ ↦{fullShare} f)) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr [HSI]; · ipureintro; exact funext fun i => h i (Finset.mem_univ i)
  iexact HSI

/-- What the program leaves with, read off in the final state. -/
theorem hfin (d : Dev nD) (s' : Phys nD τ sig (Elt F)) : iprop(FIN m d ∗ SI s') ⊢ (⌜fq m d s'⌝ : sProp 𝕄) := by
  unfold FIN
  iintro ⟨⟨Hx, Hw, Hb, H4, H7⟩, HSI⟩
  ihave H := (read_one s' _ _) $$ [HSI Hx]
  · isplitl [HSI] <;> iassumption
  icases H with ⟨%h1, HSI⟩
  ihave H := (read_one s' _ _) $$ [HSI Hw]
  · isplitl [HSI] <;> iassumption
  icases H with ⟨%h2, HSI⟩
  ihave H := (read_one s' _ _) $$ [HSI Hb]
  · isplitl [HSI] <;> iassumption
  icases H with ⟨%h3, HSI⟩
  ihave H := (read_one s' _ _) $$ [HSI H4]
  · isplitl [HSI] <;> iassumption
  icases H with ⟨%h4, HSI⟩
  ihave H := (read_one s' _ _) $$ [HSI H7]
  · isplitl [HSI] <;> iassumption
  icases H with ⟨%h5, -⟩
  ipureintro; exact ⟨h1, h2, h3, h4, h5⟩

/-- What every run ends with, on all devices, and the semaphores at zero. -/
def QC : PUnit × MemSt nD τ sig (Elt F) → Prop := fun r =>
  (∀ d : Dev nD, r.2.mem (xLoc d) = m (xLoc d) ∧ r.2.mem (wLoc d) = m (wLoc d) ∧ r.2.mem (bLoc d) = m (bLoc d)
    ∧ r.2.mem ((tt d).loc main_v4) = resI m d ∧ r.2.mem ((tt d).loc main_v7) = resV m d) ∧ r.2.sem = fun _ => 0

/-- Every run of the program ends, with the arguments as launched, the two results at the chosen experts and their
    probabilities, and every semaphore at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h hz => ⟨h, hz⟩)

end Launch

end Cert.Proof.Router
-- ==== Proof.Frames.lean ====
/-
  The frames: what the run theorem (Proof/Launch.lean) says of the arguments and of the semaphores, for the program at both
  instances, and the same for the reference.
-/
module

public import proofs.«01_k».proof.Defs
public import proofs.«01_k».proof.Proof.Gen.Kernel
public import proofs.«01_k».proof.Proof.Launch
public import proofs.«01_k».proof.Proof.Gen.ReferenceIdeal
public import proofs.«01_k».proof.Proof.Gen.ReferenceIdeal.Run

@[expose] public section

noncomputable section

namespace Cert.Proof

open Idealize.ShloMosaic Idealize.SL.Sem

/-- The idealized kernel's frame: every run ends, the arguments are unchanged, every semaphore is at zero. -/
theorem frame_kernelIdeal : Cert.quiescent_KernelIdeal := fun m ρ _ =>
  (θ_run Cert.KernelIdeal.defs _ _).mono
    (fun _ h => ⟨fun c => ⟨(h.1 c).1, (h.1 c).2.1, (h.1 c).2.2.1⟩, h.2⟩) (Router.run_main (F := Ideal) m ρ)

/-- The two programs' kernels are the same, label by label. -/
theorem defs₀_eq : Cert.Kernel.defs₀ (F := Bits) = Cert.KernelIdeal.defs₀ (F := Bits) := by
  funext p ℓ a
  cases p <;> fin_cases ℓ <;> rfl

/-- The two programs' body tables are the same. -/
theorem defs_eq : Cert.Kernel.defs (F := Bits) = Cert.KernelIdeal.defs (F := Bits) := by
  unfold Cert.Kernel.defs Cert.KernelIdeal.defs
  rw [defs₀_eq]; rfl

/-- The kernel's frame: its text is the idealized kernel's, so the same run serves. -/
theorem frame_kernel : Cert.quiescent_Kernel := by
  intro m ρ _
  have h := (θ_run Cert.KernelIdeal.defs _ _).mono (Q' := fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)
    (fun _ h => ⟨fun c => ⟨(h.1 c).1, (h.1 c).2.1, (h.1 c).2.2.1⟩, h.2⟩) (Router.run_main (F := Bits) m ρ)
  rw [defs_eq]; exact h

/-- The reference's frame: it only reads its arguments, and declares no semaphore. -/
theorem frame_referenceIdeal : Cert.quiescent_ReferenceIdeal := fun m ρ _ =>
  (θ_run Cert.ReferenceIdeal.defs _ _).mono
    (fun r h => ⟨fun c => (h c).2.2, sem_eq_zero_of_no_sems (by decide) r.2⟩) (Cert.ReferenceIdeal.Value.run (F := Ideal) m ρ)

end Cert.Proof

end
-- ==== Proof.Passes.lean ====
/-
  What a vector of tokens' two passes compute, as recursions over the experts: the running maximum and its expert of the
  first pass, the running maximum and its expert of the second pass (with the first pass's choice set to the least
  value), and the sum of the exponentials. The kernel's straight-line terms are these recursions.
-/
module

public import proofs.«01_k».proof.Proof.Common

@[expose] public section

set_option maxRecDepth 16384

noncomputable section

namespace Cert.Proof.Router

open Cert.KernelIdeal Cert.KernelIdeal.Gen
open Idealize.ShloMosaic

variable {F : FTy → Type} [FloatOps F]
variable (s : Fin 16 → FVec F S16 .f32)

/-- Expert `k`'s score. -/
def sN (k : ℕ) : FVec F S16 .f32 := s (Fin.ofNat 16 k)

/-- The first pass's running maximum after expert `k`. -/
def M1 : ℕ → FVec F S16 .f32
  | 0 => sN s 0
  | k + 1 => select (cmpf .ogt (sN s (k + 1)) (M1 k)) (sN s (k + 1)) (M1 k)

/-- The first pass's running expert after expert `k`. -/
def I1 : ℕ → IVec S16 32
  | 0 => broadcast S16 0#32
  | k + 1 => select (cmpf .ogt (sN s (k + 1)) (M1 s k)) (broadcast S16 (BitVec.ofNat 32 (k + 1))) (I1 k)

/-- Expert `k`'s score for the second pass: the least value where the first pass chose `k`. -/
def C2 (k : ℕ) : FVec F S16 .f32 := select (cmpi .eq (gI1 s) (broadcast S16 (BitVec.ofNat 32 k))) k1_pay2 (sN s k)

/-- The second pass's running maximum before expert `k`. -/
def M2 : ℕ → FVec F S16 .f32
  | 0 => k1_pay2
  | k + 1 => select (cmpf .ogt (C2 s k) (M2 k)) (C2 s k) (M2 k)

/-- The second pass's running expert before expert `k`. -/
def I2 : ℕ → IVec S16 32
  | 0 => broadcast S16 0#32
  | k + 1 => select (cmpf .ogt (C2 s k) (M2 s k)) (broadcast S16 (BitVec.ofNat 32 k)) (I2 k)

/-- The sum of the exponentials of experts `0 … k`'s scores less the maximum. -/
def ES : ℕ → FVec F S16 .f32
  | 0 => exp (subf (sN s 0) (gM1 s))
  | k + 1 => addf (ES k) (exp (subf (sN s (k + 1)) (gM1 s)))

/-- The first pass's maximum after eleven experts. -/
theorem g165_eq : g165 s = M1 s 11 := rfl
/-- Whether expert twelve beats the maximum so far. -/
theorem g166_eq : g166 s = cmpf .ogt (sN s 12) (M1 s 11) := rfl
/-- The first pass's expert after expert twelve. -/
theorem g168_eq : g168 s = I1 s 12 := rfl
/-- The first pass's maximum. -/
theorem gM1_eq : gM1 s = M1 s 15 := rfl
/-- The first pass's expert. -/
theorem gI1_eq : gI1 s = I1 s 15 := rfl
/-- The second pass's expert after expert three. -/
theorem g209_eq : g209 s = I2 s 4 := rfl
/-- The second pass's maximum after expert three. -/
theorem g210_eq : g210 s = M2 s 4 := rfl
/-- Expert four's score for the second pass. -/
theorem g213_eq : g213 s = C2 s 4 := rfl
/-- Whether expert four beats the second pass's maximum so far. -/
theorem g214_eq : g214 s = cmpf .ogt (C2 s 4) (M2 s 4) := rfl
/-- The second pass's expert after expert ten. -/
theorem g258_eq : g258 s = I2 s 11 := rfl
/-- The second pass's maximum after expert ten. -/
theorem g259_eq : g259 s = M2 s 11 := rfl
/-- The second pass's maximum. -/
theorem gM2_eq : gM2 s = M2 s 16 := rfl
/-- The second pass's expert. -/
theorem gI2_eq : gI2 s = I2 s 16 := rfl
/-- The first weight. -/
theorem gV1_eq : gV1 s = divf (broadcast S16 (Scalar.ofBits .f32 0x3F800000#32)) (ES s 15) := rfl
/-- The second weight. -/
theorem gV2_eq : gV2 s = divf (exp (subf (gM2 s) (gM1 s))) (ES s 15) := rfl

end Cert.Proof.Router
-- ==== Proof.Scan.lean ====
/-
  Two facts free of any program: a running maximum over the extended reals that keeps the first expert attaining it, and
  the first two places of a stable sort.
-/
module

public import Idealize.ShloMosaic.Lib.SortPrefix
public import Mathlib.Data.EReal.Basic

@[expose] public section

noncomputable section

namespace Cert.Proof.Scan

open Idealize.ShloMosaic

/-- The running maximum: after `k` entries of `c`, from the least value and entry `0`. -/
def runMax (c : ℕ → EReal) : ℕ → EReal × ℕ
  | 0 => (⊥, 0)
  | k + 1 => if (runMax c k).1 < c k then (c k, k) else runMax c k

/-- One more entry: the larger value. -/
theorem runMax_fst (c : ℕ → EReal) (k : ℕ) :
    (runMax c (k + 1)).1 = if (runMax c k).1 < c k then c k else (runMax c k).1 := by
  rw [runMax]; split <;> rfl

/-- One more entry: the larger value's number. -/
theorem runMax_snd (c : ℕ → EReal) (k : ℕ) :
    (runMax c (k + 1)).2 = if (runMax c k).1 < c k then k else (runMax c k).2 := by
  rw [runMax]; split <;> rfl

/-- After `k` entries: either every entry so far is the least value, or the running entry is the first largest. -/
theorem runMax_spec (c : ℕ → EReal) : ∀ k, (runMax c k = (⊥, 0) ∧ ∀ e < k, c e = ⊥) ∨
    ((runMax c k).2 < k ∧ (runMax c k).1 = c (runMax c k).2 ∧ (∀ e < k, c e ≤ c (runMax c k).2) ∧
      ∀ e < (runMax c k).2, c e < c (runMax c k).2)
  | 0 => Or.inl ⟨rfl, fun e h => absurd h (Nat.not_lt_zero e)⟩
  | k + 1 => by
    rw [runMax]
    by_cases h : (runMax c k).1 < c k
    · rw [if_pos h]
      refine Or.inr ⟨Nat.lt_succ_self k, rfl, ?_, ?_⟩
      · intro e he
        rcases Nat.lt_succ_iff_lt_or_eq.mp he with he | rfl
        · rcases runMax_spec c k with ⟨h0, hb⟩ | ⟨_, h1, h2, _⟩
          · rw [hb e he]; exact bot_le
          · exact (h2 e he).trans (h1 ▸ h.le)
        · exact le_rfl
      · intro e he
        rcases runMax_spec c k with ⟨h0, hb⟩ | ⟨_, h1, h2, _⟩
        · rw [hb e he]; rw [h0] at h; exact h
        · exact lt_of_le_of_lt (h2 e he) (h1 ▸ h)
    · rw [if_neg h]
      rcases runMax_spec c k with ⟨h0, hb⟩ | ⟨hk, h1, h2, h3⟩
      · refine Or.inl ⟨h0, fun e he => ?_⟩
        rcases Nat.lt_succ_iff_lt_or_eq.mp he with he | rfl
        · exact hb e he
        · rw [h0] at h; exact le_bot_iff.mp (not_lt.mp h)
      · refine Or.inr ⟨hk.trans (Nat.lt_succ_self k), h1, fun e he => ?_, h3⟩
        rcases Nat.lt_succ_iff_lt_or_eq.mp he with he | rfl
        · exact h2 e he
        · exact h1 ▸ not_lt.mp h

/-- If some entry exceeds the least value, the running entry is the first largest. -/
theorem runMax_first (c : ℕ → EReal) (k e₀ : ℕ) (he : e₀ < k) (hc : c e₀ ≠ ⊥) :
    (runMax c k).2 < k ∧ (runMax c k).1 = c (runMax c k).2 ∧ (∀ e < k, c e ≤ c (runMax c k).2) ∧
      ∀ e < (runMax c k).2, c e < c (runMax c k).2 := by
  rcases runMax_spec c k with ⟨_, h⟩ | h
  · exact absurd (h e₀ he) hc
  · exact h

/-- Inserting looks only at the inserted entry against the entries of the list. -/
theorem insertBefore_congr {ι : Type} (R R' : ι → ι → Bool) (a : ι) :
    ∀ l : List ι, (∀ b ∈ l, R b a = R' b a) → insertBefore R a l = insertBefore R' a l
  | [], _ => rfl
  | b :: l, h => by
    rw [insertBefore, insertBefore, h b (by simp), insertBefore_congr R R' a l fun c hc => h c (by simp [hc])]

/-- A stable sort looks only at a later entry against an earlier one. -/
theorem stableSort_congr {ι : Type} (R R' : ι → ι → Bool) :
    ∀ l : List ι, (l.Pairwise fun a b => R b a = R' b a) → stableSort R l = stableSort R' l
  | [], _ => rfl
  | a :: l, h => by
    rw [List.pairwise_cons] at h
    rw [stableSort, stableSort, stableSort_congr R R' l h.2]
    exact insertBefore_congr R R' a _ fun b hb => h.1 b ((perm_stableSort R' l).mem_iff.mp hb)

/-- The source position of a sort looks only at a later position against an earlier one. -/
theorem sortedFrom_congr_later {n : ℕ} (R R' : Fin n → Fin n → Bool) (h : ∀ a b, a < b → R b a = R' b a) :
    sortedFrom R = sortedFrom R' := by
  have e : sortPositions n R = sortPositions n R' :=
    stableSort_congr R R' _ ((List.pairwise_lt_finRange n).imp fun hab => h _ _ hab)
  funext k
  simp only [sortedFrom, List.get_eq_getElem, e]
  rfl

/-- The first two places of the stable sort by "greater", of `p` over `n` positions: `i₁` is the first largest and `i₂`
    the first largest but for `i₁`. -/
theorem sortedFrom_top2 {n : ℕ} (hn : 2 ≤ n) (p : Fin n → EReal) (i₁ i₂ : Fin n) (hne : i₂ ≠ i₁)
    (h₁ : ∀ e, p e ≤ p i₁) (h₁' : ∀ e < i₁, p e < p i₁)
    (h₂ : ∀ e, e ≠ i₁ → p e ≤ p i₂) (h₂' : ∀ e < i₂, e ≠ i₁ → p e < p i₂)
    (R : Fin n → Fin n → Bool) (hR : ∀ a b, R a b = decide (p b < p a)) :
    sortedFrom R ⟨0, by omega⟩ = i₁ ∧ sortedFrom R ⟨1, by omega⟩ = i₂ := by
  classical
  set B : Fin n → Fin n → Bool := fun k k' => decide (p k' < p k) || (decide (p k = p k') && decide (k < k')) with hB
  have hBt : StrictTotalBefore B :=
    StrictTotalBefore.of_key_then_position (fun a b : EReal => decide (b < a)) p (by simp)
      (by simpa using fun a b c h h' => lt_trans h' h)
      (fun a b => by
        rcases lt_trichotomy a b with h | h | h <;> simp [h])
  have e : sortedFrom R = sortedFrom B :=
    sortedFrom_congr_later R B fun a b hab => by simp [hR, hB, not_lt.mpr hab.le]
  have key := hBt.sortedFrom_eq_of_prefix hn ![i₁, i₂] (by
      intro a b h
      fin_cases a <;> fin_cases b <;> simp_all [eq_comm])
    (by
      intro a b hab
      have ha : a = 0 := by omega
      have hb : b = 1 := by omega
      subst ha hb
      simp only [hB, Matrix.cons_val_zero, Matrix.cons_val_one, Bool.or_eq_false_iff, Bool.and_eq_false_iff,
        decide_eq_false_iff_not, not_lt]
      refine ⟨h₁ _, ?_⟩
      by_cases hp : p i₂ = p i₁
      · right
        by_contra hlt
        exact absurd (h₁' i₂ (not_le.mp hlt)) (by rw [hp]; exact lt_irrefl _)
      · left; exact hp)
    (by
      intro i q hq
      have hq0 : q ≠ i₁ := fun h => hq 0 h.symm
      have hq1 : q ≠ i₂ := fun h => hq 1 h.symm
      have aux : ∀ j, p q ≤ p j → (q < j → p q < p j) → B q j = false := by
        intro j hle hlt
        simp only [hB, Bool.or_eq_false_iff, Bool.and_eq_false_iff, decide_eq_false_iff_not, not_lt]
        refine ⟨hle, ?_⟩
        by_cases hp : p q = p j
        · right
          by_contra hh
          exact absurd (hlt (not_le.mp hh)) (by rw [hp]; exact lt_irrefl _)
        · left; exact hp
      have hi : i = 0 ∨ i = 1 := by omega
      rcases hi with rfl | rfl
      · exact aux i₁ (h₁ q) (h₁' q)
      · exact aux i₂ (h₂ q hq0) fun h => h₂' q h hq0)
  rw [e]
  exact ⟨key 0, key 1⟩

end Cert.Proof.Scan
-- ==== Proof.Lane.lean ====
/-
  A vector of tokens' two passes at one lane, over the extended reals: for real scores the two chosen experts are the
  first largest and the first largest of the rest, and the weights are the softmax's values there.
-/
module

public import proofs.«01_k».proof.Proof.Passes
public import proofs.«01_k».proof.Proof.Scan
public import Idealize.ShloMosaic.Lib.Pointwise

@[expose] public section

set_option maxRecDepth 16384

noncomputable section

namespace Cert.Proof.Router

open Cert.KernelIdeal Cert.KernelIdeal.Gen
open Idealize.ShloMosaic
open Cert.Proof.Scan

/-- The pattern of negative infinity is the least value. -/
theorem ofBits_ninf : Ideal.ofBits .f32 0xFF800000#32 = ⊥ := by simp [Ideal.ofBits, Ideal.ieee]

/-- The pattern of positive infinity is the greatest value. -/
theorem ofBits_pinf : Ideal.ofBits .f32 0x7F800000#32 = ⊤ := by simp [Ideal.ofBits, Ideal.ieee]

/-- A choice on a bit that says whether a fact holds. -/
theorem sel_ofBool {α : Type} (p : Prop) [Decidable p] (a b : α) :
    Scalar.select (BitVec.ofBool (decide p)) a b = if p then a else b := by
  by_cases h : p <;> simp [Scalar.select, h]

/-- A choice of the larger, at an index. -/
theorem sel_gt {α : Type} (x y : FVec Ideal S16 .f32) (a b : S16.Idx → α) (l : S16.Idx) :
    select (cmpf .ogt x y) a b l = if y l < x l then a l else b l :=
  sel_ofBool (y l < x l) (a l) (b l)

/-- A choice on equal words, at an index. -/
theorem sel_eq {α : Type} (x y : IVec S16 32) (a b : S16.Idx → α) (l : S16.Idx) :
    select (cmpi .eq x y) a b l = if x l = y l then a l else b l := by
  show Scalar.select (IntOp.cmpi .eq (x l) (y l)) (a l) (b l) = _
  exact sel_ofBool (x l = y l) (a l) (b l)

section Lane

variable (s : Fin 16 → FVec Ideal S16 .f32) (l : S16.Idx)

/-- The scores at the lane, by the expert's number. -/
def cN (k : ℕ) : EReal := s (Fin.ofNat 16 k) l

/-- The first pass at the lane is a running maximum. -/
theorem pass1 (h0 : cN s l 0 ≠ ⊥) (k : ℕ) :
    M1 s k l = (runMax (cN s l) (k + 1)).1 ∧ I1 s k l = BitVec.ofNat 32 (runMax (cN s l) (k + 1)).2 := by
  induction k with
  | zero =>
    have : runMax (cN s l) 1 = (cN s l 0, 0) := by
      rw [runMax, runMax, if_pos (bot_lt_iff_ne_bot.mpr h0)]
    rw [this]; exact ⟨rfl, rfl⟩
  | succ k ih =>
    rw [M1, I1, sel_gt, sel_gt, ih.1, ih.2, runMax_fst (cN s l) (k + 1), runMax_snd (cN s l) (k + 1),
      apply_ite (BitVec.ofNat 32)]
    exact ⟨rfl, rfl⟩

/-- The second pass at the lane is a running maximum of the scores with the first choice at the least value. -/
theorem pass2 (i : ℕ) (hi : i < 16) (h1 : gI1 s l = BitVec.ofNat 32 i) (k : ℕ) (hk : k ≤ 16) :
    M2 s k l = (runMax (fun e => if e = i then ⊥ else cN s l e) k).1 ∧
      I2 s k l = BitVec.ofNat 32 (runMax (fun e => if e = i then ⊥ else cN s l e) k).2 := by
  have hc : ∀ k < 16, C2 s k l = if k = i then ⊥ else cN s l k := by
    intro k hk
    rw [C2, sel_eq, h1]
    have e : (BitVec.ofNat 32 i = broadcast S16 (BitVec.ofNat 32 k) l) ↔ k = i := by
      show (BitVec.ofNat 32 i = BitVec.ofNat 32 k) ↔ k = i
      constructor
      · intro h
        have := congrArg BitVec.toNat h
        simp only [BitVec.toNat_ofNat] at this
        omega
      · rintro rfl; rfl
    by_cases h : k = i
    · rw [if_pos (e.mpr h), if_pos h]; exact ofBits_ninf
    · rw [if_neg (fun h' => h (e.mp h')), if_neg h]; rfl
  induction k with
  | zero => exact ⟨ofBits_ninf, rfl⟩
  | succ k ih =>
    have ih := ih (by omega)
    rw [M2, I2, sel_gt, sel_gt, ih.1, ih.2, hc k (by omega), runMax_fst, runMax_snd, apply_ite (BitVec.ofNat 32)]
    exact ⟨rfl, rfl⟩

/-- For real scores: the chosen experts and the weights at the lane. -/
theorem lane_top2 (r : Fin 16 → ℝ) (hr : ∀ e, s e l = (r e : EReal)) :
    ∃ i₁ i₂ : Fin 16, i₂ ≠ i₁ ∧ (∀ e, r e ≤ r i₁) ∧ (∀ e < i₁, r e < r i₁) ∧
      (∀ e, e ≠ i₁ → r e ≤ r i₂) ∧ (∀ e < i₂, e ≠ i₁ → r e < r i₂) ∧
      gI1 s l = BitVec.ofNat 32 i₁ ∧ gI2 s l = BitVec.ofNat 32 i₂ ∧
      gV1 s l = ((Real.exp (r i₁ - r i₁) / ∑ e, Real.exp (r e - r i₁) : ℝ) : EReal) ∧
      gV2 s l = ((Real.exp (r i₂ - r i₁) / ∑ e, Real.exp (r e - r i₁) : ℝ) : EReal) := by
  have hN : ∀ e : Fin 16, cN s l e = (r e : EReal) := fun e => by
    rw [← hr e]; show s (Fin.ofNat 16 e) l = s e l; congr 1; ext; simp
  have hnb : ∀ k : ℕ, cN s l k ≠ ⊥ := fun k => by
    show s (Fin.ofNat 16 k) l ≠ ⊥; rw [hr]; exact EReal.coe_ne_bot _
  have p1 := pass1 s l (hnb 0) 15
  obtain ⟨a1, a2, a3, a4⟩ := runMax_first (cN s l) 16 0 (by omega) (hnb 0)
  generalize hn : (runMax (cN s l) 16).2 = n at a1 a2 a3 a4
  have hI1 : gI1 s l = BitVec.ofNat 32 n := by rw [gI1_eq, p1.2, hn]
  have hM1 : gM1 s l = cN s l n := by rw [gM1_eq, p1.1, a2]
  have p2 := pass2 s l n a1 hI1 16 le_rfl
  obtain ⟨e₀, he₀, hne₀⟩ : ∃ e₀ : ℕ, e₀ < 16 ∧ e₀ ≠ n := ⟨if n = 0 then 1 else 0, by split <;> omega, by split <;> omega⟩
  obtain ⟨b1, b2, b3, b4⟩ := runMax_first (fun e => if e = n then ⊥ else cN s l e) 16 e₀ he₀ (by
    show (if e₀ = n then ⊥ else cN s l e₀) ≠ ⊥
    rw [if_neg hne₀]; exact hnb e₀)
  generalize hq : (runMax (fun e => if e = n then ⊥ else cN s l e) 16).2 = q at b1 b2 b3 b4 p2
  have hqn : q ≠ n := by
    rintro rfl
    have := b3 e₀ he₀
    simp only [if_neg hne₀, if_true, le_bot_iff] at this
    exact hnb e₀ this
  simp only [if_neg hqn] at b2 b3 b4
  have hI2 : gI2 s l = BitVec.ofNat 32 q := by rw [gI2_eq, p2.2]
  have hM2 : gM2 s l = cN s l q := by rw [gM2_eq, p2.1, b2]
  have hn' := hN ⟨n, a1⟩
  have hq' := hN ⟨q, b1⟩
  simp only at hn' hq'
  have hE : ∀ k : ℕ, k < 16 → ES s k l = ((∑ e ∈ Finset.range (k + 1), Real.exp (r (Fin.ofNat 16 e) - r ⟨n, a1⟩) : ℝ) : EReal) := by
    have t : ∀ k : ℕ, (exp (subf (sN s k) (gM1 s)) : FVec Ideal S16 .f32) l
        = ((Real.exp (r (Fin.ofNat 16 k) - r ⟨n, a1⟩) : ℝ) : EReal) := fun k => by
      show Ideal.exp (s (Fin.ofNat 16 k) l - gM1 s l) = _
      rw [hM1, hn', hr, ← EReal.coe_sub]; rfl
    intro k hk
    induction k with
    | zero => rw [ES, t]; simp
    | succ k ih =>
      rw [ES, Finset.sum_range_succ, EReal.coe_add, ← ih (by omega), ← t (k + 1)]
      rfl
  have hS := hE 15 (by omega)
  have hsum : ∑ e ∈ Finset.range 16, Real.exp (r (Fin.ofNat 16 e) - r ⟨n, a1⟩) = ∑ e, Real.exp (r e - r ⟨n, a1⟩) := by
    rw [Finset.sum_range]
    refine Finset.sum_congr rfl fun e _ => ?_
    congr 3; ext; simp
  rw [hsum] at hS
  have hpos : 0 < ∑ e, Real.exp (r e - r ⟨n, a1⟩) := Finset.sum_pos (fun e _ => Real.exp_pos _) ⟨0, Finset.mem_univ _⟩
  have hdiv : ∀ a : ℝ, Ideal.div (a : EReal) ((∑ e, Real.exp (r e - r ⟨n, a1⟩) : ℝ) : EReal)
      = ((a / ∑ e, Real.exp (r e - r ⟨n, a1⟩) : ℝ) : EReal) := fun a => by
    rw [Ideal.div, if_neg (by exact_mod_cast hpos.ne'), ← EReal.coe_inv, ← EReal.coe_mul, div_eq_mul_inv]
  refine ⟨⟨n, a1⟩, ⟨q, b1⟩, fun h => hqn (congrArg Fin.val h), ?_, ?_, ?_, ?_, hI1, hI2, ?_, ?_⟩
  · intro e
    have := a3 e e.isLt
    rw [hN, hn'] at this; exact EReal.coe_le_coe_iff.mp this
  · intro e he
    have := a4 e he
    rw [hN, hn'] at this; exact EReal.coe_lt_coe_iff.mp this
  · intro e he
    have := b3 e e.isLt
    rw [if_neg (fun h => he (Fin.ext h)), hN, hq'] at this; exact EReal.coe_le_coe_iff.mp this
  · intro e he hne
    have := b4 e he
    rw [if_neg (fun h => hne (Fin.ext h)), hN, hq'] at this; exact EReal.coe_lt_coe_iff.mp this
  · rw [gV1_eq]
    show Ideal.div (Ideal.ofBits .f32 0x3F800000#32) (ES s 15 l) = _
    rw [Ideal.ofBits_one_f32, hS, sub_self, Real.exp_zero, ← hdiv 1]; rfl
  · rw [gV2_eq]
    show Ideal.div (Ideal.exp (gM2 s l - gM1 s l)) (ES s 15 l) = _
    rw [hM1, hM2, hn', hq', hS, ← EReal.coe_sub, ← hdiv]; rfl

end Lane

end Cert.Proof.Router
-- ==== Proof.Scores.lean ====
/-
  The kernel's scores over the extended reals, at one token and one expert: the sum of the products, and the bias.
-/
module

public import proofs.«01_k».proof.Proof.Lane
public import proofs.«01_k».proof.Proof.Region

@[expose] public section

set_option maxRecDepth 16384

noncomputable section

namespace Cert.Proof.Router

open Cert.KernelIdeal Cert.KernelIdeal.Gen
open Idealize.ShloMosaic

/-- The first half of a chunk's scores, at an expert and a token. -/
theorem pay5_at (w : S16x2048.Idx → Ideal .f32) (v : Vec Ideal S1x512x2048 .f32) (e : Fin 16) (l : Fin 256) :
    k0_pay5 (F := Ideal) w v (ix3 0 e l) = ∑ k : Fin 2048, w (ix2 e k) * v (ix3 0 ⟨l, by omega⟩ k) := by
  pointwise [k0_pay5, k0_pay4]

/-- The second half of a chunk's scores, at an expert and a token. -/
theorem pay6_at (w : S16x2048.Idx → Ideal .f32) (v : Vec Ideal S1x512x2048 .f32) (e : Fin 16) (l : Fin 256) :
    k0_pay6 (F := Ideal) w v (ix3 0 e l) = ∑ k : Fin 2048, w (ix2 e k) * v (ix3 0 ⟨256 + l, by omega⟩ k) := by
  pointwise [k0_pay6, k0_pay4]

/-- The scores array at a row, an expert and a lane: the products of the expert's weights and the token's entries. -/
theorem scoresOf_at (w : S16x2048.Idx → Ideal .f32) (x : S8192x2048.Idx → Ideal .f32) (u : Fin 32) (e : Fin 16)
    (l : Fin 256) (T : Fin 8192) (hT : T.val = 256 * u.val + l.val) :
    scoresOf (F := Ideal) w x (ix3 u e l) = ∑ k : Fin 2048, w (ix2 e k) * x (ix2 T k) := by
  unfold scoresOf
  show (if u.val % 2 = 0 then k0_pay5 (F := Ideal) w (chunkVec x (u.val / 2)) (ix3 0 e l)
    else k0_pay6 (F := Ideal) w (chunkVec x (u.val / 2)) (ix3 0 e l)) = _
  split
  · rw [pay5_at]
    refine Finset.sum_congr rfl fun k _ => ?_
    show _ * x (ix2 (Fin.ofNat 8192 (512 * (u.val / 2) + l.val)) k) = _
    congr 3; ext; simp; omega
  · rw [pay6_at]
    refine Finset.sum_congr rfl fun k _ => ?_
    show _ * x (ix2 (Fin.ofNat 8192 (512 * (u.val / 2) + (256 + l.val))) k) = _
    congr 3; ext; simp; omega

/-- The biased scores of the group in which token `T` stands, at its lane. -/
theorem sVec_at (w : S16x2048.Idx → Ideal .f32) (x : S8192x2048.Idx → Ideal .f32) (b : S16.Idx → Ideal .f32)
    (T : Fin 8192) (e : Fin 16) :
    sVec (blkOf (scoresOf (F := Ideal) w x) ⟨T.val / 256, by omega⟩) b ⟨T.val % 256 / 16, by omega⟩ e
        (ix1 ⟨T.val % 256 % 16, by omega⟩)
      = (∑ k : Fin 2048, w (ix2 e k) * x (ix2 T k)) + b (ix1 e) := by
  show scoresOf (F := Ideal) w x (ix3 (⟨T.val / 256, by omega⟩ : Fin 32) e
    (⟨16 * (T.val % 256 / 16) + T.val % 256 % 16, by omega⟩ : Fin 256)) + b (ix1 e) = _
  rw [scoresOf_at w x _ e _ T (by simp only; omega)]

/-- The four results of the SparseCore kernel, at token `T`. -/
theorem o_at (sc : S32x16x256.Idx → Ideal .f32) (b : S16.Idx → Ideal .f32) (T : Fin 8192) :
    let s := sVec (blkOf sc ⟨T.val / 256, by omega⟩) b ⟨T.val % 256 / 16, by omega⟩
    let l : S16.Idx := ix1 ⟨T.val % 256 % 16, by omega⟩
    oI1 sc b (ix1 T) = gI1 s l ∧ oI2 sc b (ix1 T) = gI2 s l ∧ oV1 sc b (ix1 T) = gV1 s l ∧ oV2 sc b (ix1 T) = gV2 s l :=
  ⟨rfl, rfl, rfl, rfl⟩

end Cert.Proof.Router
-- ==== Proof.RefValue.lean ====
/-
  The reference over the extended reals, at one token: its scores, its probabilities and its two largest.
-/
module

public import proofs.«01_k».proof.Proof.Scan
public import proofs.«01_k».proof.Proof.Gen.ReferenceIdeal.Run
public import Idealize.ShloMosaic.Lib.Pointwise

@[expose] public section

set_option maxRecDepth 16384

noncomputable section

namespace Cert.Proof.Ref

open Cert.ReferenceIdeal Cert.ReferenceIdeal.Gen
open Cert.Proof.Scan
open Idealize.ShloMosaic

/-- The reference's scores. -/
def refS (x : FVec Ideal S8192x2048 .f32) (W : FVec Ideal S16x2048 .f32) (b : FVec Ideal S16 .f32) : FVec Ideal S8192x16 .f32 :=
  addf (Host.dotGeneral dot_S8192x2048_S2048x16_S8192x16_1_0_0_1_n_n none x (transpose S2048x16 [1, 0] W transposes_S16x2048_S2048x16_1_0)) (broadcastInDim S8192x16 ![0, 1] bcast_S1x16_S8192x16_0_1 (broadcastInDim S1x16 ![1] bcast_S16_S1x16_1 b))

/-- The rows' largest scores. -/
def refM (S : FVec Ideal S8192x16 .f32) : FVec Ideal S8192 .f32 :=
  maximumf (broadcastInDim S8192 ![] bcast_S_S8192 (constant S_ .f32 0xFF800000#32)) (Host.reduce FloatOps.maximumf S (constant S_ .f32 0xFF800000#32) reducesTo_S8192x16_S8192_d1 h_S_)

/-- The exponentials of the scores less the row's largest. -/
def refE (S : FVec Ideal S8192x16 .f32) : FVec Ideal S8192x16 .f32 :=
  Host.exp (subf S (broadcastInDim S8192x16 ![0, 1] bcast_S8192x1_S8192x16_0_1 (broadcastInDim S8192x1 ![0] bcast_S8192_S8192x1_0 (refM S))))

/-- The probabilities. -/
def refP (S : FVec Ideal S8192x16 .f32) : FVec Ideal S8192x16 .f32 :=
  Host.divf (refE S) (broadcastInDim S8192x16 ![0, 1] bcast_S8192x1_S8192x16_0_1 (broadcastInDim S8192x1 ![0] bcast_S8192_S8192x1_0 (Host.reduceAdd (refE S) (constant S_ .f32 0x00000000#32) reducesTo_S8192x16_S8192_d1 h_S_)))

/-- A score: the products of the token's entries and the expert's weights, and the bias. -/
theorem refS_at (x : FVec Ideal S8192x2048 .f32) (W : FVec Ideal S16x2048 .f32) (b : FVec Ideal S16 .f32)
    (T : Fin 8192) (e : Fin 16) :
    refS x W b (ix2 T e) = (∑ k : Fin 2048, x (ix2 T k) * W (ix2 e k)) + b (ix1 e) := by
  pointwise [refS]

/-- A row's largest score, where it is a real number that one of the row's scores is and none exceeds. -/
theorem refM_at (S : FVec Ideal S8192x16 .f32) (T : Fin 8192) (i : Fin 16) (h : ∀ e, S (ix2 T e) ≤ S (ix2 T i)) :
    refM S (ix1 T) = S (ix2 T i) := by
  have hb : Ideal.ofBits .f32 0xFF800000#32 = ⊥ := by simp [Ideal.ofBits, Ideal.ieee]
  pointwise [refM]
  rw [hb, max_eq_right bot_le]
  refine le_antisymm ((Finset.fold_max_le _).mpr ⟨bot_le, fun e _ => h e⟩) ?_
  exact (Finset.le_fold_max _).mpr (Or.inr ⟨i, Finset.mem_univ _, le_rfl⟩)

/-- A probability. -/
theorem refP_at (S : FVec Ideal S8192x16 .f32) (T : Fin 8192) (e : Fin 16) :
    refP S (ix2 T e) = Ideal.div (Ideal.exp (S (ix2 T e) - refM S (ix1 T)))
      (∑ e, Ideal.exp (S (ix2 T e) - refM S (ix1 T))) := by
  pointwise [refP, refE]

/-- A probability, for real scores. -/
theorem refP_real (S : FVec Ideal S8192x16 .f32) (T : Fin 8192) (r : Fin 16 → ℝ) (hr : ∀ e, S (ix2 T e) = (r e : EReal))
    (i : Fin 16) (h : ∀ e, r e ≤ r i) (e : Fin 16) :
    refP S (ix2 T e) = ((Real.exp (r e - r i) / ∑ e, Real.exp (r e - r i) : ℝ) : EReal) := by
  have hM : refM S (ix1 T) = (r i : EReal) := by
    rw [refM_at S T i fun e => by rw [hr, hr]; exact EReal.coe_le_coe_iff.mpr (h e), hr]
  have hx : ∀ e, Ideal.exp (S (ix2 T e) - refM S (ix1 T)) = ((Real.exp (r e - r i) : ℝ) : EReal) := fun e => by
    rw [hr, hM, ← EReal.coe_sub]; rfl
  have hpos : 0 < ∑ e, Real.exp (r e - r i) := Finset.sum_pos (fun e _ => Real.exp_pos _) ⟨0, Finset.mem_univ _⟩
  have hs : (∑ e, Ideal.exp (S (ix2 T e) - refM S (ix1 T))) = ((∑ e, Real.exp (r e - r i) : ℝ) : EReal) := by
    simp only [hx]
    exact (map_sum (⟨⟨Real.toEReal, EReal.coe_zero⟩, EReal.coe_add⟩ : ℝ →+ EReal) _ _).symm
  rw [refP_at, hx, hs, Ideal.div, if_neg (by exact_mod_cast hpos.ne'), ← EReal.coe_inv, ← EReal.coe_mul, div_eq_mul_inv]

/-- A sort of two arrays along the columns, at an element: the first array. -/
theorem sort2_fst {α β : Type} (g : α × β → α × β → BitVec 1) (x : S8192x16.Idx → α) (y : S8192x16.Idx → β) (j : S8192x16.Idx) :
    (Host.sort2 S8192x16 1 g x y).1 j = x (j.along 1 (sortedFrom (fun k k' : Fin 16 =>
      g (x (j.along 1 k), y (j.along 1 k)) (x (j.along 1 k'), y (j.along 1 k')) == 1#1) (j 1))) := rfl

/-- A sort of two arrays along the columns, at an element: the second array. -/
theorem sort2_snd {α β : Type} (g : α × β → α × β → BitVec 1) (x : S8192x16.Idx → α) (y : S8192x16.Idx → β) (j : S8192x16.Idx) :
    (Host.sort2 S8192x16 1 g x y).2 j = y (j.along 1 (sortedFrom (fun k k' : Fin 16 =>
      g (x (j.along 1 k), y (j.along 1 k)) (x (j.along 1 k'), y (j.along 1 k')) == 1#1) (j 1))) := rfl

/-- The first columns of an array, at an element. -/
theorem slice_at {α : Type} (v : S8192x16.Idx → α) (T : Fin 8192) (a : Fin 2) :
    extractStridedSlice S8192x2 (fun _ => 0) v sliceFits_S8192x16_S8192x2 (ix2 T a) = v (ix2 T ⟨a.val, by omega⟩) := by
  pointwise

/-- An index with its column replaced. -/
theorem along_ix2 (T : Fin 8192) (c k : Fin 16) : Shape.Idx.along (s := S8192x16) (ix2 T c) 1 k = ix2 T k := by
  funext c
  fin_cases c
  · rfl
  · rfl

/-- The two largest of each row: where they stand and what they are. -/
theorem topK_at (P : FVec Ideal S8192x16 .f32) (T : Fin 8192) (a : Fin 2) (k : Fin 16)
    (hk : sortedFrom (fun k k' : Fin 16 => FloatOps.cmpfTotal .gt (P (ix2 T k)) (P (ix2 T k')) == 1#1) ⟨a.val, by omega⟩ = k) :
    (Host.topK S8192x2 1 (FloatOps.cmpfTotal .gt) P sliceFits_S8192x16_S8192x2).1 (ix2 T a) = P (ix2 T k) ∧
    (Host.topK S8192x2 1 (FloatOps.cmpfTotal .gt) P sliceFits_S8192x16_S8192x2).2 (ix2 T a) = BitVec.ofNat 32 k.val := by
  have hi : sortedFrom (fun k k' : Fin 16 => FloatOps.cmpfTotal .gt (P (Shape.Idx.along (s := S8192x16) (ix2 T ⟨a.val, by omega⟩) 1 k))
      (P (Shape.Idx.along (s := S8192x16) (ix2 T ⟨a.val, by omega⟩) 1 k')) == 1#1) ⟨a.val, by omega⟩ = k := by
    refine (congrArg (fun R : Fin 16 → Fin 16 → Bool => sortedFrom R ⟨a.val, by omega⟩)
      (funext fun k => funext fun k' => ?_)).trans hk
    rw [along_ix2, along_ix2]
  constructor
  · rw [Host.topK]
    dsimp only
    rw [slice_at, sort2_fst]
    exact congrArg P ((congrArg (Shape.Idx.along (s := S8192x16) (ix2 T ⟨a.val, by omega⟩) 1) hi).trans (along_ix2 T _ k))
  · rw [Host.topK]
    dsimp only
    rw [slice_at, sort2_snd]
    exact congrArg (fun i : S8192x16.Idx => BitVec.ofNat 32 (i 1).val)
      ((congrArg (Shape.Idx.along (s := S8192x16) (ix2 T ⟨a.val, by omega⟩) 1) hi).trans (along_ix2 T _ k))

/-- The two largest probabilities of a row of real scores, of which `i₁` is the first largest and `i₂` the first largest
    of the rest. -/
theorem ref_at (S : FVec Ideal S8192x16 .f32) (T : Fin 8192) (r : Fin 16 → ℝ) (hr : ∀ e, S (ix2 T e) = (r e : EReal))
    (i₁ i₂ : Fin 16) (hne : i₂ ≠ i₁) (h₁ : ∀ e, r e ≤ r i₁) (h₁' : ∀ e < i₁, r e < r i₁)
    (h₂ : ∀ e, e ≠ i₁ → r e ≤ r i₂) (h₂' : ∀ e < i₂, e ≠ i₁ → r e < r i₂) :
    (Host.topK S8192x2 1 (FloatOps.cmpfTotal .gt) (refP S) sliceFits_S8192x16_S8192x2).2 (ix2 T 0) = BitVec.ofNat 32 i₁ ∧
    (Host.topK S8192x2 1 (FloatOps.cmpfTotal .gt) (refP S) sliceFits_S8192x16_S8192x2).2 (ix2 T 1) = BitVec.ofNat 32 i₂ ∧
    (Host.topK S8192x2 1 (FloatOps.cmpfTotal .gt) (refP S) sliceFits_S8192x16_S8192x2).1 (ix2 T 0)
      = ((Real.exp (r i₁ - r i₁) / ∑ e, Real.exp (r e - r i₁) : ℝ) : EReal) ∧
    (Host.topK S8192x2 1 (FloatOps.cmpfTotal .gt) (refP S) sliceFits_S8192x16_S8192x2).1 (ix2 T 1)
      = ((Real.exp (r i₂ - r i₁) / ∑ e, Real.exp (r e - r i₁) : ℝ) : EReal) := by
  have hP := refP_real S T r hr i₁ h₁
  have hpos : 0 < ∑ e, Real.exp (r e - r i₁) := Finset.sum_pos (fun e _ => Real.exp_pos _) ⟨0, Finset.mem_univ _⟩
  have hle : ∀ a b, r a ≤ r b → refP S (ix2 T a) ≤ refP S (ix2 T b) := fun a b h => by
    rw [hP, hP]
    exact EReal.coe_le_coe_iff.mpr (div_le_div_of_nonneg_right (Real.exp_le_exp.mpr (by linarith)) hpos.le)
  have hlt : ∀ a b, r a < r b → refP S (ix2 T a) < refP S (ix2 T b) := fun a b h => by
    rw [hP, hP]
    exact EReal.coe_lt_coe_iff.mpr (div_lt_div_of_pos_right (Real.exp_lt_exp.mpr (by linarith)) hpos)
  obtain ⟨s0, s1⟩ := sortedFrom_top2 (n := 16) (by decide) (fun e => refP S (ix2 T e)) i₁ i₂ hne
    (fun e => hle _ _ (h₁ e)) (fun e h => hlt _ _ (h₁' e h)) (fun e h => hle _ _ (h₂ e h)) (fun e h h' => hlt _ _ (h₂' e h h'))
    (fun k k' : Fin 16 => FloatOps.cmpfTotal .gt (refP S (ix2 T k)) (refP S (ix2 T k')) == 1#1) (fun a b => by
      show (BitVec.ofBool (decide (refP S (ix2 T b) < refP S (ix2 T a))) == 1#1) = decide (refP S (ix2 T b) < refP S (ix2 T a))
      generalize decide (refP S (ix2 T b) < refP S (ix2 T a)) = d
      cases d <;> rfl)
  obtain ⟨a1, a2⟩ := topK_at (refP S) T 0 i₁ s0
  obtain ⟨b1, b2⟩ := topK_at (refP S) T 1 i₂ s1
  exact ⟨a2, b2, a1.trans (hP i₁), b1.trans (hP i₂)⟩

end Cert.Proof.Ref
-- ==== Proof.Algebraic.lean ====
/-
  The value claim: for finite arguments the kernel's two result arrays are the reference's.
-/
module

public import proofs.«01_k».proof.Defs
public import proofs.«01_k».proof.Proof.Scores
public import proofs.«01_k».proof.Proof.RefValue
public import proofs.«01_k».proof.Proof.Frames

@[expose] public section

set_option maxRecDepth 16384

noncomputable section

namespace Cert.Proof

open Idealize.ShloMosaic Idealize.SL.Sem
open Cert.Proof.Router Cert.Proof.Ref

/-- The side conditions of the finiteness predicate's operations. -/
instance finiteFacts : Cert.Pre_finite.Facts where
  bcast_S_S8192x2048 := by decide
  reducesTo_S8192x2048_S_d0_1 := by decide
  h_S_ := by decide
  bcast_S_S16x2048 := by decide
  reducesTo_S16x2048_S_d0_1 := by decide
  bcast_S_S16 := by decide
  reducesTo_S16_S_d0 := by decide

/-- A conjunction over finitely many bits is set exactly when every bit is. -/
theorem fold_andi {ι : Type} (t : Finset ι) (p : ι → BitVec 1) (c : BitVec 1) (h : t.fold IntOp.andi c p = 1#1) :
    c = 1#1 ∧ ∀ i ∈ t, p i = 1#1 := by
  classical
  induction t using Finset.induction_on with
  | empty => exact ⟨h, by simp⟩
  | insert a t ha ih =>
    rw [Finset.fold_insert ha] at h
    have both : ∀ u v : BitVec 1, IntOp.andi u v = 1#1 → u = 1#1 ∧ v = 1#1 := by decide
    obtain ⟨h1, h2⟩ := both _ _ h
    obtain ⟨h3, h4⟩ := ih h2
    refine ⟨h3, fun i hi => ?_⟩
    rcases Finset.mem_insert.mp hi with rfl | hi
    · exact h1
    · exact h4 i hi

/-- A conjunction over a whole finite type, set, has every bit set. -/
theorem fold_andi_univ {ι : Type} [Fintype ι] (p : ι → BitVec 1) (c : BitVec 1)
    (h : Finset.univ.fold IntOp.andi c p = 1#1) (i : ι) : p i = 1#1 :=
  (fold_andi _ p c h).2 i (Finset.mem_univ i)

/-- An extended real whose absolute value is below the greatest is a real number. -/
theorem real_of_abs_lt (a : EReal) (h : max a (-a) < ⊤) : ∃ r : ℝ, a = (r : EReal) := by
  induction a using EReal.rec with
  | bot => simp at h
  | coe r => exact ⟨r, rfl⟩
  | top => simp at h

/-- The finiteness predicate: every element of the three arguments is a real number. -/
theorem finite_spec (x : FVec Ideal Cert.Pre_finite.S8192x2048 .f32) (W : FVec Ideal Cert.Pre_finite.S16x2048 .f32)
    (b : FVec Ideal Cert.Pre_finite.S16 .f32) (h : Cert.Pre_finite.fn (F := Ideal) x W b = fun _ => 1#1) :
    (∀ i, ∃ r : ℝ, x i = (r : EReal)) ∧ (∀ i, ∃ r : ℝ, W i = (r : EReal)) ∧ (∀ i, ∃ r : ℝ, b i = (r : EReal)) := by
  have h0 := congrFun h ix0
  pointwise [Cert.Pre_finite.fn] at h0
  have htop : Ideal.ofBits .f32 0x7F800000#32 = ⊤ := ofBits_pinf
  rw [htop] at h0
  have both : ∀ u v : BitVec 1, IntOp.andi u v = 1#1 → u = 1#1 ∧ v = 1#1 := by decide
  have bit : ∀ (p : Prop) [Decidable p], BitVec.ofBool (decide p) = 1#1 → p := fun p _ hp => by
    by_contra hn
    simp [hn] at hp
  obtain ⟨h1, h3⟩ := both _ _ h0
  obtain ⟨h1, h2⟩ := both _ _ h1
  refine ⟨fun i => ?_, fun i => ?_, fun i => ?_⟩
  · rw [eq_ix2 i]
    have q := fold_andi_univ _ _ h1 (i 0, i 1)
    exact real_of_abs_lt _ (bit _ q)
  · rw [eq_ix2 i]
    have q := fold_andi_univ _ _ h2 (i 0, i 1)
    exact real_of_abs_lt _ (bit _ q)
  · rw [eq_ix1 i]
    have q := fold_andi_univ _ _ h3 (i 0)
    exact real_of_abs_lt _ (bit _ q)

/-- The two columns of the joined indices. -/
theorem resI_at (m : (ℓ : Loc Cert.KernelIdeal.nD Cert.KernelIdeal.τ Cert.KernelIdeal.sig) → Buf (Elt Ideal) ℓ)
    (d : Dev Cert.KernelIdeal.nD) (T : Fin 8192) :
    resI m d (ix2 T 0) = oI1 (scoresAt m d) (m (bLoc d)) (ix1 T) ∧
    resI m d (ix2 T 1) = oI2 (scoresAt m d) (m (bLoc d)) (ix1 T) := by
  constructor <;> pointwise [resI]

/-- The two columns of the joined weights. -/
theorem resV_at (m : (ℓ : Loc Cert.KernelIdeal.nD Cert.KernelIdeal.τ Cert.KernelIdeal.sig) → Buf (Elt Ideal) ℓ)
    (d : Dev Cert.KernelIdeal.nD) (T : Fin 8192) :
    resV m d (ix2 T 0) = oV1 (scoresAt m d) (m (bLoc d)) (ix1 T) ∧
    resV m d (ix2 T 1) = oV2 (scoresAt m d) (m (bLoc d)) (ix1 T) := by
  constructor <;> pointwise [resV]

/-- The reference's pair of results on given arguments. -/
def refTop (x : FVec Ideal Cert.ReferenceIdeal.S8192x2048 .f32) (W : FVec Ideal Cert.ReferenceIdeal.S16x2048 .f32)
    (b : FVec Ideal Cert.ReferenceIdeal.S16 .f32) :=
  Host.topK Cert.ReferenceIdeal.S8192x2 1 (FloatOps.cmpfTotal .gt) (refP (refS x W b))
    Cert.ReferenceIdeal.Gen.sliceFits_S8192x16_S8192x2

/-- On real arguments, token by token, the kernel's results are the reference's. -/
theorem token_eq (m : (ℓ : Loc Cert.KernelIdeal.nD Cert.KernelIdeal.τ Cert.KernelIdeal.sig) → Buf (Elt Ideal) ℓ)
    (d : Dev Cert.KernelIdeal.nD) (x : Cert.KernelIdeal.S8192x2048.Idx → Ideal .f32)
    (W : Cert.KernelIdeal.S16x2048.Idx → Ideal .f32) (b : Cert.KernelIdeal.S16.Idx → Ideal .f32)
    (ex : m (xLoc d) = x) (ew : m (wLoc d) = W) (eb : m (bLoc d) = b)
    (hx : ∀ i, ∃ r : ℝ, x i = (r : EReal)) (hw : ∀ i, ∃ r : ℝ, W i = (r : EReal)) (hb : ∀ i, ∃ r : ℝ, b i = (r : EReal))
    (T : Fin 8192) :
    (resI m d (ix2 T 0) = (refTop x W b).2 (ix2 T 0) ∧ resI m d (ix2 T 1) = (refTop x W b).2 (ix2 T 1)) ∧
    (resV m d (ix2 T 0) = (refTop x W b).1 (ix2 T 0) ∧ resV m d (ix2 T 1) = (refTop x W b).1 (ix2 T 1)) := by
  choose fx hx using hx
  choose fw hw using hw
  choose fb hb using hb
  obtain ⟨a1, a2⟩ := resI_at m d T
  obtain ⟨b1, b2⟩ := resV_at m d T
  rw [a1, a2, b1, b2, scoresAt, ex, ew, eb]
  obtain ⟨o1, o2, o3, o4⟩ := o_at (scoresOf (F := Ideal) W x) b T
  rw [o1, o2, o3, o4]
  have sumr : ∀ f g : Fin 2048 → ℝ, (∑ k, (f k : EReal) * (g k : EReal)) = ((∑ k, f k * g k : ℝ) : EReal) := fun f g => by
    simp only [← EReal.coe_mul]
    exact (map_sum (⟨⟨Real.toEReal, EReal.coe_zero⟩, EReal.coe_add⟩ : ℝ →+ EReal) _ _).symm
  have hs : ∀ e, sVec (blkOf (scoresOf (F := Ideal) W x) ⟨T.val / 256, by omega⟩) b ⟨T.val % 256 / 16, by omega⟩ e
      (ix1 ⟨T.val % 256 % 16, by omega⟩) = (((∑ k, fw (ix2 e k) * fx (ix2 T k)) + fb (ix1 e) : ℝ) : EReal) := fun e => by
    rw [sVec_at, EReal.coe_add, ← sumr, hb]
    simp only [hx, hw]
  have hr : ∀ e, refS x W b (ix2 T e) = (((∑ k, fw (ix2 e k) * fx (ix2 T k)) + fb (ix1 e) : ℝ) : EReal) := fun e => by
    rw [refS_at, EReal.coe_add, ← sumr, hb]
    simp only [hx, hw, mul_comm]
  obtain ⟨i₁, i₂, hne, h1, h1', h2, h2', k1, k2, k3, k4⟩ := lane_top2 _ _ _ hs
  obtain ⟨r1, r2, r3, r4⟩ := ref_at _ T _ hr i₁ i₂ hne h1 h1' h2 h2'
  exact ⟨⟨k1.trans r1.symm, k2.trans r2.symm⟩, ⟨k3.trans r3.symm, k4.trans r4.symm⟩⟩

/-- The value claim: on finite arguments every run of the kernel and every run of the reference end with the same two
    result arrays. -/
theorem algebraic : Cert.algebraic_KernelIdeal_ReferenceIdeal_pre_finite := by
  intro m g m' g' hpre hagree
  have hres : ∀ c : Dev Cert.KernelIdeal.nD,
      resI m c = (refTop (m (xLoc c)) (m (wLoc c)) (m (bLoc c))).2 ∧ resV m c = (refTop (m (xLoc c)) (m (wLoc c)) (m (bLoc c))).1 := by
    intro c
    obtain ⟨fx, fw, fb⟩ := finite_spec _ _ _ (hpre c)
    have tk := token_eq m c _ _ _ rfl rfl rfl fx fw fb
    constructor
    · funext j
      rw [eq_ix2 j]
      generalize j 0 = T
      generalize j 1 = a
      match a with
      | ⟨0, _⟩ => exact (tk T).1.1
      | ⟨1, _⟩ => exact (tk T).1.2
      | ⟨k + 2, h⟩ => exact absurd h (by simp)
    · funext j
      rw [eq_ix2 j]
      generalize j 0 = T
      generalize j 1 = a
      match a with
      | ⟨0, _⟩ => exact (tk T).2.1
      | ⟨1, _⟩ => exact (tk T).2.2
      | ⟨k + 2, h⟩ => exact absurd h (by simp)
  refine ⟨fun c => resI m c, fun c => resV m c, ?_, ?_⟩
  · exact (θ_run Cert.KernelIdeal.defs _ _).mono
      (fun _ h c => ⟨(h.1 c).2.2.2.1, (h.1 c).2.2.2.2, (h.1 c).1, (h.1 c).2.1, (h.1 c).2.2.1⟩) (run_main (F := Ideal) m g)
  · refine (θ_run Cert.ReferenceIdeal.defs _ _).mono (fun r h c => ?_) (Cert.ReferenceIdeal.Value.run (F := Ideal) m' g')
    obtain ⟨h0, h1, h2⟩ := h c
    obtain ⟨e0, e1, e2⟩ := hagree c
    refine ⟨h0.trans ?_, h1.trans ?_, h2⟩
    · rw [e0, e1, e2]; exact (hres c).1.symm
    · rw [e0, e1, e2]; exact (hres c).2.symm

end Cert.Proof
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebraic

@[expose] public section

namespace Cert.Proof

/-- Everything the certificate claims. -/
theorem claim : Cert.Claim :=
  ⟨Cert.Kernel.Gen.facts, Cert.KernelIdeal.Gen.facts, Cert.ReferenceIdeal.Gen.facts, finiteFacts,
    frame_kernel, frame_kernelIdeal, (fun m ρ _ => frame_kernelIdeal m ρ trivial),
    frame_referenceIdeal, (fun m ρ _ => frame_referenceIdeal m ρ trivial), trivial, algebraic⟩

end Cert.Proof

end
